-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_UnroundedIdeal (m : (ℓ : Loc Cert.UnroundedIdeal.nD Cert.UnroundedIdeal.τ Cert.UnroundedIdeal.sig) → Buf (Elt Ideal) ℓ) : Prop :=
  True

def Pre_Unrounded (m : (ℓ : Loc Cert.Unrounded.nD Cert.Unrounded.τ Cert.Unrounded.sig) → Buf (Elt Bits) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UnroundedIdeal [hUnroundedIdeal : Cert.UnroundedIdeal.Facts] : Prop :=
  ∀ (m : (ℓ : Loc Cert.UnroundedIdeal.nD Cert.UnroundedIdeal.τ Cert.UnroundedIdeal.sig) → Buf (Elt Ideal) ℓ) (g : Dev Cert.UnroundedIdeal.nD → PrngReg), Pre_UnroundedIdeal m →
    θ_run (Cert.UnroundedIdeal.defs (F := Ideal)) (onTc (τ := Cert.UnroundedIdeal.τ) (Cert.UnroundedIdeal.main (F := Ideal))) ⟨m, fun _ => 0, g⟩ (fun r => (∀ c : Dev Cert.UnroundedIdeal.nD,
      r.2.mem ((c.tc : Thread Cert.UnroundedIdeal.nD Cert.UnroundedIdeal.τ).loc Cert.UnroundedIdeal.main_arg0) = m ((c.tc : Thread Cert.UnroundedIdeal.nD Cert.UnroundedIdeal.τ).loc Cert.UnroundedIdeal.main_arg0)
      ∧ r.2.mem ((c.tc : Thread Cert.UnroundedIdeal.nD Cert.UnroundedIdeal.τ).loc Cert.UnroundedIdeal.main_arg1) = m ((c.tc : Thread Cert.UnroundedIdeal.nD Cert.UnroundedIdeal.τ).loc Cert.UnroundedIdeal.main_arg1)
      ∧ r.2.mem ((c.tc : Thread Cert.UnroundedIdeal.nD Cert.UnroundedIdeal.τ).loc Cert.UnroundedIdeal.main_arg2) = m ((c.tc : Thread Cert.UnroundedIdeal.nD Cert.UnroundedIdeal.τ).loc Cert.UnroundedIdeal.main_arg2))
      ∧ r.2.sem = fun _ => 0)

def quiescent_Unrounded [hUnrounded : Cert.Unrounded.Facts] : Prop :=
  ∀ (m : (ℓ : Loc Cert.Unrounded.nD Cert.Unrounded.τ Cert.Unrounded.sig) → Buf (Elt Bits) ℓ) (g : Dev Cert.Unrounded.nD → PrngReg), Pre_Unrounded m →
    θ_run (Cert.Unrounded.defs (F := Bits)) (onTc (τ := Cert.Unrounded.τ) (Cert.Unrounded.main (F := Bits))) ⟨m, fun _ => 0, g⟩ (fun r => (∀ c : Dev Cert.Unrounded.nD,
      r.2.mem ((c.tc : Thread Cert.Unrounded.nD Cert.Unrounded.τ).loc Cert.Unrounded.main_arg0) = m ((c.tc : Thread Cert.Unrounded.nD Cert.Unrounded.τ).loc Cert.Unrounded.main_arg0)
      ∧ r.2.mem ((c.tc : Thread Cert.Unrounded.nD Cert.Unrounded.τ).loc Cert.Unrounded.main_arg1) = m ((c.tc : Thread Cert.Unrounded.nD Cert.Unrounded.τ).loc Cert.Unrounded.main_arg1)
      ∧ r.2.mem ((c.tc : Thread Cert.Unrounded.nD Cert.Unrounded.τ).loc Cert.Unrounded.main_arg2) = m ((c.tc : Thread Cert.Unrounded.nD Cert.Unrounded.τ).loc Cert.Unrounded.main_arg2))
      ∧ r.2.sem = fun _ => 0)

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)) (v1 : (c : Dev Cert.Kernel.nD) → Buf (Elt Bits) ((c.tc : Thread Cert.Kernel.nD Cert.Kernel.τ).loc Cert.Kernel.main_v3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_v3) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_v3) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Reference_ReferenceIdeal : Prop :=
  True

def preserves_Unrounded_UnroundedIdeal : Prop :=
  True

def algebraic_ReferenceIdeal_UnroundedIdeal [hReferenceIdeal : Cert.ReferenceIdeal.Facts] [hUnroundedIdeal : Cert.UnroundedIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg)
    (m' : (ℓ : Loc Cert.UnroundedIdeal.nD Cert.UnroundedIdeal.τ Cert.UnroundedIdeal.sig) → Buf (Elt Ideal) ℓ) (g' : Dev Cert.UnroundedIdeal.nD → PrngReg), Pre_ReferenceIdeal m →
    (∀ c : Dev Cert.ReferenceIdeal.nD,
      m' ((c.tc : Thread Cert.UnroundedIdeal.nD Cert.UnroundedIdeal.τ).loc Cert.UnroundedIdeal.main_arg0) = m ((c.tc : Thread Cert.ReferenceIdeal.nD Cert.ReferenceIdeal.τ).loc Cert.ReferenceIdeal.main_arg0)
      ∧ m' ((c.tc : Thread Cert.UnroundedIdeal.nD Cert.UnroundedIdeal.τ).loc Cert.UnroundedIdeal.main_arg1) = m ((c.tc : Thread Cert.ReferenceIdeal.nD Cert.ReferenceIdeal.τ).loc Cert.ReferenceIdeal.main_arg1)
      ∧ m' ((c.tc : Thread Cert.UnroundedIdeal.nD Cert.UnroundedIdeal.τ).loc Cert.UnroundedIdeal.main_arg2) = m ((c.tc : Thread Cert.ReferenceIdeal.nD Cert.ReferenceIdeal.τ).loc Cert.ReferenceIdeal.main_arg2)) →
    ∃ (v0 : (c : Dev Cert.ReferenceIdeal.nD) → Buf (Elt Ideal) ((c.tc : Thread Cert.ReferenceIdeal.nD Cert.ReferenceIdeal.τ).loc Cert.ReferenceIdeal.main_v2)) (v1 : (c : Dev Cert.ReferenceIdeal.nD) → Buf (Elt Ideal) ((c.tc : Thread Cert.ReferenceIdeal.nD Cert.ReferenceIdeal.τ).loc Cert.ReferenceIdeal.main_v3)),
      θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ θ_run (Cert.UnroundedIdeal.defs (F := Ideal)) (onTc (τ := Cert.UnroundedIdeal.τ) (Cert.UnroundedIdeal.main (F := Ideal))) ⟨m', fun _ => 0, g'⟩ (fun r => ∀ c : Dev Cert.UnroundedIdeal.nD,
          r.2.mem ((c.tc : Thread Cert.UnroundedIdeal.nD Cert.UnroundedIdeal.τ).loc Cert.UnroundedIdeal.main_v0) = v0 c
          ∧ r.2.mem ((c.tc : Thread Cert.UnroundedIdeal.nD Cert.UnroundedIdeal.τ).loc Cert.UnroundedIdeal.main_v1) = v1 c
          ∧ r.2.mem ((c.tc : Thread Cert.UnroundedIdeal.nD Cert.UnroundedIdeal.τ).loc Cert.UnroundedIdeal.main_arg0) = m' ((c.tc : Thread Cert.UnroundedIdeal.nD Cert.UnroundedIdeal.τ).loc Cert.UnroundedIdeal.main_arg0)
          ∧ r.2.mem ((c.tc : Thread Cert.UnroundedIdeal.nD Cert.UnroundedIdeal.τ).loc Cert.UnroundedIdeal.main_arg1) = m' ((c.tc : Thread Cert.UnroundedIdeal.nD Cert.UnroundedIdeal.τ).loc Cert.UnroundedIdeal.main_arg1)
          ∧ r.2.mem ((c.tc : Thread Cert.UnroundedIdeal.nD Cert.UnroundedIdeal.τ).loc Cert.UnroundedIdeal.main_arg2) = m' ((c.tc : Thread Cert.UnroundedIdeal.nD Cert.UnroundedIdeal.τ).loc Cert.UnroundedIdeal.main_arg2))

def Claim : Prop :=
  ∃ (hKernel : Cert.Kernel.Facts) (hReference : Cert.Reference.Facts) (hReferenceIdeal : Cert.ReferenceIdeal.Facts) (hUnroundedIdeal : Cert.UnroundedIdeal.Facts) (hUnrounded : Cert.Unrounded.Facts) (hPre_in_range : Cert.Pre_in_range.Facts),
    quiescent_Kernel (hKernel := hKernel) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_UnroundedIdeal (hUnroundedIdeal := hUnroundedIdeal)
    ∧ quiescent_Unrounded (hUnrounded := hUnrounded)
    ∧ bitexact_Kernel_Reference (hKernel := hKernel) (hReference := hReference) (hPre_in_range := hPre_in_range)
    ∧ preserves_Reference_ReferenceIdeal
    ∧ preserves_Unrounded_UnroundedIdeal
    ∧ algebraic_ReferenceIdeal_UnroundedIdeal (hReferenceIdeal := hReferenceIdeal) (hUnroundedIdeal := hUnroundedIdeal)
-- ==== Pre_in_range.lean ====
abbrev S16384x4096 : Shape := ⟨2, ![16384, 4096]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S16384x4096 .f32) (main_arg1 : IVec S4096 32) (main_arg2 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 4096#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S16384x4096 : Shape := ⟨2, ![16384, 4096]⟩
abbrev S4096 : Shape := ⟨1, ![4096]⟩
abbrev S1x4096 : Shape := ⟨2, ![1, 4096]⟩
abbrev S4096x8192 : Shape := ⟨2, ![4096, 8192]⟩
abbrev S16384x256 : Shape := ⟨2, ![16384, 256]⟩
abbrev S256x8192 : Shape := ⟨2, ![256, 8192]⟩
abbrev S1024x256 : Shape := ⟨2, ![1024, 256]⟩
abbrev S256x1024 : Shape := ⟨2, ![256, 1024]⟩
abbrev S_ : Shape := ⟨0, ![]⟩
abbrev S1x1 : Shape := ⟨2, ![1, 1]⟩
abbrev S1x8192 : Shape := ⟨2, ![1, 8192]⟩
abbrev S8192 : Shape := ⟨1, ![8192]⟩
abbrev S16384 : Shape := ⟨1, ![16384]⟩

abbrev nBuf : Space → Nat
  | .hbm => 8
  | .vmem => 8
  | .smem => 1
  | _ => 0

abbrev bufTy : (tb : Table) → Fin (tcTables nBuf tb) → BufTy
  | .hbm, ⟨0, _⟩ => ⟨S16384x4096, .f32⟩
  | .hbm, ⟨1, _⟩ => ⟨S4096, .i32⟩
  | .hbm, ⟨2, _⟩ => ⟨S4096, .i32⟩
  | .hbm, ⟨3, _⟩ => ⟨S1x4096, .i32⟩
  | .hbm, ⟨4, _⟩ => ⟨S4096x8192, .i32⟩
  | .hbm, ⟨5, _⟩ => ⟨S16384x4096, .f32⟩
  | .hbm, ⟨6, _⟩ => ⟨S_, .f32⟩
  | .hbm, ⟨7, _⟩ => ⟨S16384, .f32⟩
  | .local _ .vmem, ⟨0, _⟩ => ⟨S16384x256, .f32⟩
  | .local _ .vmem, ⟨1, _⟩ => ⟨S16384x256, .f32⟩
  | .local _ .vmem, ⟨2, _⟩ => ⟨S256x8192, .i32⟩
  | .local _ .vmem, ⟨3, _⟩ => ⟨S256x8192, .i32⟩
  | .local _ .vmem, ⟨4, _⟩ => ⟨S16384x256, .f32⟩
  | .local _ .vmem, ⟨5, _⟩ => ⟨S16384x256, .f32⟩
  | .local _ .vmem, ⟨6, _⟩ => ⟨S256x8192, .i32⟩
  | .local _ .vmem, ⟨7, _⟩ => ⟨S256x8192, .i32⟩
  | .local _ .smem, ⟨0, _⟩ => ⟨S1x4096, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_scratch0 : Ref sig .tc := ⟨.vmem, 6, rfl⟩
abbrev cc1_scratch1 : Ref sig .tc := ⟨.vmem, 7, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_17 : BitVec 32 := 0#32
  let c256_i32 : BitVec 32 := 256#32
  let v33 : BitVec 32 := Scalar.addi c0_i32_17 c256_i32
  let c1_i32_18 : BitVec 32 := 1#32
  ⟨c0_i32_17, v33, c1_i32_18⟩
def k1_off1 (k1_t1 : Fin k1_t1_loop.trips) : Fin 2 → Nat :=
  let c0 : Index := 0#32
  let c0_i32_20 : BitVec 32 := 0#32
  let c0_i32_17 : BitVec 32 := 0#32
  let c1_i32_18 : BitVec 32 := 1#32
  let arg8 : BitVec 32 := Scf.iv c0_i32_17 c1_i32_18 k1_t1
  let v34 : BitVec 32 := Scalar.addi c0_i32_20 arg8
  let v35 : Index := Scalar.indexCast v34
  ![0, v35.toNat]
def k1_off2 (k1_t1 : Fin k1_t1_loop.trips) : Fin 2 → Nat :=
  let c0_i32_17 : BitVec 32 := 0#32
  let c1_i32_18 : BitVec 32 := 1#32
  let arg8 : BitVec 32 := Scf.iv c0_i32_17 c1_i32_18 k1_t1
  let c0_i32_21 : BitVec 32 := 0#32
  ![arg8.toNat, 0]
def k1_off3 (v36 : BitVec 32) : Fin 2 → Nat :=
  let c0_i32_22 : BitVec 32 := 0#32
  ![v36.toNat, 0]

def k1_chk1 (i : grid1.Coords) (v36 : BitVec 32) : Prop :=
  (∀ (k1_h1 : k1_cond1 i = 1#1), ∀ a, (k1_off3 v36) a + S1x8192.size a ≤ S4096x8192.size a)
theorem k1_off3_inb : ∀ (i : grid1.Coords) (v36 : BitVec 32) (k1_hw1 : k1_chk1 i v36), ∀ (k1_h1 : k1_cond1 i = 1#1), ∀ a, (k1_off3 v36) a + S1x8192.size a ≤ S4096x8192.size a := fun i v36 k1_hw1 k1_h1 => k1_hw1 k1_h1

def k1_cond2 (i : grid1.Coords) : BitVec 1 :=
  let arg0 : BitVec 32 := BitVec.ofNat 32 (i 0).val
  let c1_i32 : BitVec 32 := 1#32
  let v3 : BitVec 32 := Scalar.addi arg0 c1_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k1_cond3 (i : grid1.Coords) : BitVec 1 :=
  let arg0 : BitVec 32 := BitVec.ofNat 32 (i 0).val
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi arg0 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c0_i32_23 : BitVec 32 := 0#32
  let v43 : BitVec 1 := Scalar.cmpi .eq v42 c0_i32_23
  let v44 : BitVec 32 := Scalar.extui v43
  let c0_i32_24 : BitVec 32 := 0#32
  let v45 : BitVec 1 := Scalar.cmpi .ne v44 c0_i32_24
  v45

@[reducible] def k1_t2_loop : Scf.Loop 32 :=
  let c0_i32_34 : BitVec 32 := 0#32
  let c256_i32 : BitVec 32 := 256#32
  let v60 : BitVec 32 := Scalar.addi c0_i32_34 c256_i32
  let c1_i32_35 : BitVec 32 := 1#32
  ⟨c0_i32_34, v60, c1_i32_35⟩
def k1_off4 (i : grid1.Coords) (k1_t2 : Fin k1_t2_loop.trips) : Fin 2 → Nat :=
  let c0 : Index := 0#32
  let arg0 : BitVec 32 := BitVec.ofNat 32 (i 0).val
  let c1_i32_33 : BitVec 32 := 1#32
  let v59 : BitVec 32 := Scalar.addi arg0 c1_i32_33
  let c256_i32_37 : BitVec 32 := 256#32
  let v61 : BitVec 32 := Scalar.muli v59 c256_i32_37
  let c0_i32_34 : BitVec 32 := 0#32
  let c1_i32_35 : BitVec 32 := 1#32
  let arg8 : BitVec 32 := Scf.iv c0_i32_34 c1_i32_35 k1_t2
  let v62 : BitVec 32 := Scalar.addi v61 arg8
  let v63 : Index := Scalar.indexCast v62
  ![0, v63.toNat]
def k1_off5 (k1_t2 : Fin k1_t2_loop.trips) : Fin 2 → Nat :=
  let c0_i32_34 : BitVec 32 := 0#32
  let c1_i32_35 : BitVec 32 := 1#32
  let arg8 : BitVec 32 := Scf.iv c0_i32_34 c1_i32_35 k1_t2
  let c0_i32_38 : BitVec 32 := 0#32
  ![arg8.toNat, 0]
def k1_off6 (v64 : BitVec 32) : Fin 2 → Nat :=
  let c0_i32_39 : BitVec 32 := 0#32
  ![v64.toNat, 0]

def k1_chk2 (i : grid1.Coords) (v64 : BitVec 32) : Prop :=
  (∀ (k1_h2 : k1_cond2 i = 1#1), ∀ (k1_h3 : k1_cond3 i = 1#1), ∀ a, (k1_off6 v64) a + S1x8192.size a ≤ S4096x8192.size a)
theorem k1_off6_inb : ∀ (i : grid1.Coords) (v64 : BitVec 32) (k1_hw2 : k1_chk2 i v64), ∀ (k1_h2 : k1_cond2 i = 1#1), ∀ (k1_h3 : k1_cond3 i = 1#1), ∀ a, (k1_off6 v64) a + S1x8192.size a ≤ S4096x8192.size a := fun i v64 k1_hw2 k1_h2 k1_h3 => k1_hw2 k1_h2 k1_h3

def k1_cond4 (i : grid1.Coords) : BitVec 1 :=
  let arg0 : BitVec 32 := BitVec.ofNat 32 (i 0).val
  let c2_i32_25 : BitVec 32 := 2#32
  let c0_i32_26 : BitVec 32 := 0#32
  let v46 : BitVec 1 := Scalar.cmpi .eq c2_i32_25 c0_i32_26
  let c1_i32_27 : BitVec 32 := 1#32
  let v47 : BitVec 32 := Scalar.select v46 c1_i32_27 c2_i32_25
  let v48 : BitVec 32 := Scalar.remsi arg0 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c1_i32_31 : BitVec 32 := 1#32
  let v56 : BitVec 1 := Scalar.cmpi .eq v55 c1_i32_31
  let v57 : BitVec 32 := Scalar.extui v56
  let c0_i32_32 : BitVec 32 := 0#32
  let v58 : BitVec 1 := Scalar.cmpi .ne v57 c0_i32_32
  v58

@[reducible] def k1_t3_loop : Scf.Loop 32 :=
  let c0_i32_34 : BitVec 32 := 0#32
  let c256_i32 : BitVec 32 := 256#32
  let v60 : BitVec 32 := Scalar.addi c0_i32_34 c256_i32
  let c1_i32_35 : BitVec 32 := 1#32
  ⟨c0_i32_34, v60, c1_i32_35⟩
def k1_off7 (i : grid1.Coords) (k1_t3 : Fin k1_t3_loop.trips) : Fin 2 → Nat :=
  let c0 : Index := 0#32
  let arg0 : BitVec 32 := BitVec.ofNat 32 (i 0).val
  let c1_i32_33 : BitVec 32 := 1#32
  let v59 : BitVec 32 := Scalar.addi arg0 c1_i32_33
  let c256_i32_37 : BitVec 32 := 256#32
  let v61 : BitVec 32 := Scalar.muli v59 c256_i32_37
  let c0_i32_34 : BitVec 32 := 0#32
  let c1_i32_35 : BitVec 32 := 1#32
  let arg8 : BitVec 32 := Scf.iv c0_i32_34 c1_i32_35 k1_t3
  let v62 : BitVec 32 := Scalar.addi v61 arg8
  let v63 : Index := Scalar.indexCast v62
  ![0, v63.toNat]
def k1_off8 (k1_t3 : Fin k1_t3_loop.trips) : Fin 2 → Nat :=
  let c0_i32_34 : BitVec 32 := 0#32
  let c1_i32_35 : BitVec 32 := 1#32
  let arg8 : BitVec 32 := Scf.iv c0_i32_34 c1_i32_35 k1_t3
  let c0_i32_38 : BitVec 32 := 0#32
  ![arg8.toNat, 0]
def k1_off9 (v64 : BitVec 32) : Fin 2 → Nat :=
  let c0_i32_39 : BitVec 32 := 0#32
  ![v64.toNat, 0]

def k1_chk3 (i : grid1.Coords) (v64 : BitVec 32) : Prop :=
  (∀ (k1_h2 : k1_cond2 i = 1#1), ∀ (k1_h4 : k1_cond4 i = 1#1), ∀ a, (k1_off9 v64) a + S1x8192.size a ≤ S4096x8192.size a)
theorem k1_off9_inb : ∀ (i : grid1.Coords) (v64 : BitVec 32) (k1_hw3 : k1_chk3 i v64), ∀ (k1_h2 : k1_cond2 i = 1#1), ∀ (k1_h4 : k1_cond4 i = 1#1), ∀ a, (k1_off9 v64) a + S1x8192.size a ≤ S4096x8192.size a := fun i v64 k1_hw3 k1_h2 k1_h4 => k1_hw3 k1_h2 k1_h4

def k1_cond5 (i : grid1.Coords) : BitVec 1 :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let v17 : BitVec 1 := Scalar.cmpi .eq v16 c0_i32_7
  let v18 : BitVec 32 := Scalar.extui v17
  let c0_i32_8 : BitVec 32 := 0#32
  let v19 : BitVec 1 := Scalar.cmpi .ne v18 c0_i32_8
  v19

@[reducible] def k1_t4_loop : Scf.Loop 32 :=
  let c0_i32_17 : BitVec 32 := 0#32
  let c256_i32 : BitVec 32 := 256#32
  let v33 : BitVec 32 := Scalar.addi c0_i32_17 c256_i32
  let c1_i32_18 : BitVec 32 := 1#32
  ⟨c0_i32_17, v33, c1_i32_18⟩
def k1_off10 (i : grid1.Coords) (k1_t4 : Fin k1_t4_loop.trips) : Fin 2 → Nat :=
  let c0_53 : Index := 0#32
  let arg0 : BitVec 32 := BitVec.ofNat 32 (i 0).val
  let c256_i32_52 : BitVec 32 := 256#32
  let v90 : BitVec 32 := Scalar.muli arg0 c256_i32_52
  let c0_i32_17 : BitVec 32 := 0#32
  let c1_i32_18 : BitVec 32 := 1#32
  let arg8 : BitVec 32 := Scf.iv c0_i32_17 c1_i32_18 k1_t4
  let v91 : BitVec 32 := Scalar.addi v90 arg8
  let v92 : Index := Scalar.indexCast v91
  ![0, v92.toNat]
def k1_off11 (k1_t4 : Fin k1_t4_loop.trips) : Fin 2 → Nat :=
  let c0_i32_17 : BitVec 32 := 0#32
  let c1_i32_18 : BitVec 32 := 1#32
  let arg8 : BitVec 32 := Scf.iv c0_i32_17 c1_i32_18 k1_t4
  let c0_i32_54 : BitVec 32 := 0#32
  ![arg8.toNat, 0]
def k1_off12 (v93 : BitVec 32) : Fin 2 → Nat :=
  let c0_i32_55 : BitVec 32 := 0#32
  ![v93.toNat, 0]

def k1_chk4 (i : grid1.Coords) (v93 : BitVec 32) : Prop :=
  (∀ (k1_h5 : k1_cond5 i = 1#1), ∀ a, (k1_off12 v93) a + S1x8192.size a ≤ S4096x8192.size a)
theorem k1_off12_inb : ∀ (i : grid1.Coords) (v93 : BitVec 32) (k1_hw4 : k1_chk4 i v93), ∀ (k1_h5 : k1_cond5 i = 1#1), ∀ a, (k1_off12 v93) a + S1x8192.size a ≤ S4096x8192.size a := fun i v93 k1_hw4 k1_h5 => k1_hw4 k1_h5

def k1_cond6 (i : grid1.Coords) : BitVec 1 :=
  let arg0 : BitVec 32 := BitVec.ofNat 32 (i 0).val
  let c2_i32_9 : BitVec 32 := 2#32
  let c0_i32_10 : BitVec 32 := 0#32
  let v20 : BitVec 1 := Scalar.cmpi .eq c2_i32_9 c0_i32_10
  let c1_i32_11 : BitVec 32 := 1#32
  let v21 : BitVec 32 := Scalar.select v20 c1_i32_11 c2_i32_9
  let v22 : BitVec 32 := Scalar.remsi arg0 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c1_i32_15 : BitVec 32 := 1#32
  let v30 : BitVec 1 := Scalar.cmpi .eq v29 c1_i32_15
  let v31 : BitVec 32 := Scalar.extui v30
  let c0_i32_16 : BitVec 32 := 0#32
  let v32 : BitVec 1 := Scalar.cmpi .ne v31 c0_i32_16
  v32

@[reducible] def k1_t5_loop : Scf.Loop 32 :=
  let c0_i32_17 : BitVec 32 := 0#32
  let c256_i32 : BitVec 32 := 256#32
  let v33 : BitVec 32 := Scalar.addi c0_i32_17 c256_i32
  let c1_i32_18 : BitVec 32 := 1#32
  ⟨c0_i32_17, v33, c1_i32_18⟩
def k1_off13 (i : grid1.Coords) (k1_t5 : Fin k1_t5_loop.trips) : Fin 2 → Nat :=
  let c0_53 : Index := 0#32
  let arg0 : BitVec 32 := BitVec.ofNat 32 (i 0).val
  let c256_i32_52 : BitVec 32 := 256#32
  let v90 : BitVec 32 := Scalar.muli arg0 c256_i32_52
  let c0_i32_17 : BitVec 32 := 0#32
  let c1_i32_18 : BitVec 32 := 1#32
  let arg8 : BitVec 32 := Scf.iv c0_i32_17 c1_i32_18 k1_t5
  let v91 : BitVec 32 := Scalar.addi v90 arg8
  let v92 : Index := Scalar.indexCast v91
  ![0, v92.toNat]
def k1_off14 (k1_t5 : Fin k1_t5_loop.trips) : Fin 2 → Nat :=
  let c0_i32_17 : BitVec 32 := 0#32
  let c1_i32_18 : BitVec 32 := 1#32
  let arg8 : BitVec 32 := Scf.iv c0_i32_17 c1_i32_18 k1_t5
  let c0_i32_54 : BitVec 32 := 0#32
  ![arg8.toNat, 0]
def k1_off15 (v93 : BitVec 32) : Fin 2 → Nat :=
  let c0_i32_55 : BitVec 32 := 0#32
  ![v93.toNat, 0]

def k1_chk5 (i : grid1.Coords) (v93 : BitVec 32) : Prop :=
  (∀ (k1_h6 : k1_cond6 i = 1#1), ∀ a, (k1_off15 v93) a + S1x8192.size a ≤ S4096x8192.size a)
theorem k1_off15_inb : ∀ (i : grid1.Coords) (v93 : BitVec 32) (k1_hw5 : k1_chk5 i v93), ∀ (k1_h6 : k1_cond6 i = 1#1), ∀ a, (k1_off15 v93) a + S1x8192.size a ≤ S4096x8192.size a := fun i v93 k1_hw5 k1_h6 => k1_hw5 k1_h6

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S1x4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16384x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Reference.lean ====
abbrev S16384x4096 : Shape := ⟨2, ![16384, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S16384 : Shape := ⟨1, ![16384]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .i32⟩
  | .hbm, ⟨2, _⟩ => ⟨S4096, .i32⟩
  | .hbm, ⟨3, _⟩ => ⟨S16384x4096, .bf16⟩
  | .hbm, ⟨4, _⟩ => ⟨S16384x4096, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S16384x4096, .f32⟩
  | .hbm, ⟨24, _⟩ => ⟨S16384x4096, .i1⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Unrounded.lean ====
abbrev S16384x4096 : Shape := ⟨2, ![16384, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S16384 : Shape := ⟨1, ![16384]⟩

abbrev nBuf : Space → Nat
  | .hbm => 28
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S16384x4096, .f32⟩
  | .hbm, ⟨22, _⟩ => ⟨S16384x4096, .i1⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩

abbrev nD : Nat := 1
abbrev τ : Topo := Topo.v7x

variable {F : FTy → Type} [FloatOps F]
-- ==== Proof.Rows.lean ====
/- The row transfers of the gather: the packed array's rows, the lanes of a scratch buffer they land in, and the batch
   of 256 row copies that completes on one DMA semaphore. Both scratch buffers and both semaphores go through the same
   lemmas; the buffer, the semaphore, the share of the packed array and the rows are parameters. -/
module

public import proofs.«01_k».proof.Proof.Gen.Kernel.Skeleton
public import proofs.«01_k».proof.Proof.Gen.Kernel.Launch
public import Idealize.ShloMosaic.Lib.Batch
public import Idealize.ShloMosaic.Lib.Ring
public import Idealize.ShloMosaic.Lib.Tactic
public import Idealize.ShloMosaic.Lib.Pointwise

@[expose] public section

noncomputable section

namespace Cert.Proof.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The counters' place in the algebra: the batch's tokens live there. -/
abbrev EC : UEmb Counters 𝕄 := countersEmb (U := Pipeline.UD sig nD τ)

/-- The packed array, whole. -/
abbrev Ym : Memref sig .tc .hbm S4096x8192 .i32 := Memref.whole main_v1

theorem lane_inb (t : Fin 256) : ∀ a, (![t.val, 0] : Fin 2 → ℕ) a + S1x8192.size a ≤ S256x8192.size a := by
  have := t.isLt
  intro a; fin_cases a
  · show t.val + 1 ≤ 256; omega
  · show 0 + 8192 ≤ 8192; omega

theorem yrow_inb (r : Fin 4096) : ∀ a, (![r.val, 0] : Fin 2 → ℕ) a + S1x8192.size a ≤ S4096x8192.size a := by
  have := r.isLt
  intro a; fin_cases a
  · show r.val + 1 ≤ 4096; omega
  · show 0 + 8192 ≤ 8192; omega

/-- Row `t` of a scratch buffer, as the body spells a copy's destination. -/
abbrev lane (A : Memref sig .tc .vmem S256x8192 .i32) (t : Fin 256) : Memref sig .tc .vmem S8192 .i32 :=
  (A.slice (Rect.unit (s := S256x8192) ![t.val, 0] S1x8192.size (lane_inb t)) (fun _ => rfl)).squeeze S8192 squeezes_S1x8192_S8192

/-- Row `r` of the packed array, as the body spells a copy's source. -/
abbrev yrow (r : Fin 4096) : Memref sig .tc .hbm S8192 .i32 :=
  (Ym.slice (Rect.unit (s := S4096x8192) ![r.val, 0] S1x8192.size (yrow_inb r)) (fun _ => rfl)).squeeze S8192 squeezes_S1x8192_S8192

/-- The credit of one row: what a copy adds to its semaphore. -/
abbrev NN : ℕ := (yrow 0).view.dmaCredit

section Defs

variable (c : Dev nD) (A : Memref sig .tc .vmem S256x8192 .i32) (sm : DmaSem sig) (q : PosShare TreeShare)
variable (r : Fin 256 → Fin 4096) (Y : Buf (Elt F) (Ym.view.loc (c : Thread nD τ))) (G : Buf (Elt F) (A.view.loc (c : Thread nD τ)))

/-- Lane `t` of the scratch buffer held at `f`. -/
abbrev laneAt (t : Fin 256) (f : Buf (Elt F) (A.view.loc (c : Thread nD τ))) : sProp 𝕄 :=
  (lane A t).view.loc (c : Thread nD τ) ↦[(lane A t).view.set]{fullShare} f

/-- What copy `t` delivers: its lane at the gathered contents, and the row it read. -/
def dlv (t : Fin 256) : sProp 𝕄 :=
  iprop((laneAt c A t G)
    ∗ ((yrow (r t)).view.loc (c : Thread nD τ) ↦[(yrow (r t)).view.set]{Transfers.shareTok q 256 t} Y))

instance dlv_storable (t : Fin 256) : BI.Storable (upEmb : UEmb _ 𝕄) (dlv c A q r Y G t) := by
  unfold dlv; infer_instance

/-- The batch of 256 row copies, `j` issued and `u` units consumed. -/
abbrev batch (j u : ℕ) : sProp 𝕄 :=
  Transfers.Batch EC (c : Thread nD τ) (.dma sm) () NN (dlv c A q r Y G) j u

/-- Share `t` of the packed array off the row copy `t` reads. -/
abbrev offRow (t : Fin 256) : sProp 𝕄 :=
  Ym.view.loc (c : Thread nD τ) ↦[Finset.univ \ (yrow (r t)).view.set]{Transfers.shareTok q 256 t} Y

end Defs

variable (c : Dev nD) (A : Memref sig .tc .vmem S256x8192 .i32) (sm : DmaSem sig) (q : PosShare TreeShare)
variable (r : Fin 256 → Fin 4096) (Y : Buf (Elt F) (Ym.view.loc (c : Thread nD τ))) (G : Buf (Elt F) (A.view.loc (c : Thread nD τ)))

/-- Every lane of a whole scratch buffer credits the same. -/
theorem lane_credit (t : Fin 256) : (lane A t).view.dmaCredit = NN := by
  rfl

/-- A row of the packed array and a lane credit the same, on a DMA semaphore. -/
theorem lane_amount (t : Fin 256) : (lane A t).view.amount (.dma sm) = NN := by
  rfl

variable (𝒱 : Variants) (bd : Option 𝒱.V)

/-- The copy into lane `t`, whatever it held, leaves the gathered contents there: `G` reads on the lane as the row read. -/
theorem landed (t : Fin 256) (hG : (lane A t).view.read (Elt F) G = (yrow (r t)).view.read (Elt F) Y) (f : Buf (Elt F) (A.view.loc (c : Thread nD τ))) :
    ((lane A t).view.loc (c : Thread nD τ) ↦[(lane A t).view.set]{fullShare}
        ((lane A t).view.write (Elt F) f ((yrow (r t)).view.read (Elt F) Y) Finset.univ) : sProp 𝕄) = laneAt c A t G := by
  rw [← hG, View.write_read_eq_piecewise]
  exact pointsTo_congr fun i hi => Finset.piecewise_eq_of_mem _ _ _ hi

/-- One issue: copy `t` of the batch, its two ends at the offsets the body computes. -/
theorem wp_issueRow {α : Type} [∀ e, Nonempty (Elt F e)] (t : Fin 256) (off off' : Fin 2 → ℕ)
    (h : ∀ a, off a + S1x8192.size a ≤ S256x8192.size a) (h' : ∀ a, off' a + S1x8192.size a ≤ S4096x8192.size a)
    (ho : off = ![t.val, 0]) (ho' : off' = ![(r t).val, 0])
    (hG : (lane A t).view.read (Elt F) G = (yrow (r t)).view.read (Elt F) Y)
    (f : Buf (Elt F) (A.view.loc (c : Thread nD τ)))
    {hsrc : (((Ym.slice (Rect.unit (s := S4096x8192) off' S1x8192.size h') (fun _ => rfl)).squeeze S8192 squeezes_S1x8192_S8192).view).WordExact}
    {hdst : (((A.slice (Rect.unit (s := S256x8192) off S1x8192.size h) (fun _ => rfl)).squeeze S8192 squeezes_S1x8192_S8192).view).WordExact}
    {hsem : DmaTarget.Typed (nD := nD) .hbm (.dma sm) (.here (p := (c : Thread nD τ).2) ((A.slice (Rect.unit (s := S256x8192) off S1x8192.size h) (fun _ => rfl)).squeeze S8192 squeezes_S1x8192_S8192))}
    {k : PUnit → Prog (TpuEff nD τ sig (Elt F) Λ₀ .tc) α} {Q : α → sProp 𝕄} :
    iprop((Ym.view.loc (c : Thread nD τ) ↦{Transfers.shareTok q 256 t} Y) ∗ laneAt c A t f ∗ batch c A sm q r Y G t.val 0)
      ⊢ iprop((iprop(batch c A sm q r Y G (t.val + 1) 0 ∗ offRow c q r Y t) -∗ wp frame (wpE defs₀ 𝒱 (c : Thread nD τ) bd) Set.univ (k ⟨⟩) Q)
          -∗ wp frame (wpE defs₀ 𝒱 (c : Thread nD τ) bd) Set.univ
            (.op (.enqueueDma ((Ym.slice (Rect.unit (s := S4096x8192) off' S1x8192.size h') (fun _ => rfl)).squeeze S8192 squeezes_S1x8192_S8192)
              (.here ((A.slice (Rect.unit (s := S256x8192) off S1x8192.size h) (fun _ => rfl)).squeeze S8192 squeezes_S1x8192_S8192)) (.dma sm) hsrc hdst hsem) k) Q) := by
  subst ho; subst ho'
  iintro ⟨HY, HL, HB⟩ Hk
  ihave HY' := (pointsTo_split_subset (Finset.subset_univ (yrow (r t)).view.set)).1 $$ HY
  icases HY' with ⟨HR, HO⟩
  iapply (Transfers.wp_dmaBatch EC 𝒱 (c : Thread nD τ) bd () NN (lane_amount A sm t) (Finset.Subset.refl _) t.isLt (Nat.zero_le _)
    (src := yrow (r t)) (dst := lane A t) (D := dlv c A q r Y G) (fd := f) (fs := Y) (j := t.val) (u := 0) (q := Transfers.shareTok q 256 t) ?_) $$ [HR HL HB]
  · exact BI.sep_mono (Entails.of_eq (landed c A r Y G t hG f)) (BI.Entails.refl _)
  · isplitl [HR]; · iexact HR
    isplitl [HL]; · iexact HL
    iexact HB
  iintro HB
  iapply Hk
  isplitl [HB]; · iexact HB
  iexact HO

/-- What is left of a drained batch's semaphore: before the last wait the batch with `k` rows consumed; after it the
    semaphore at zero and every delivery. -/
def drained (k : ℕ) : sProp 𝕄 :=
  if k < 256 then batch c A sm q r Y G 256 (k * NN)
  else iprop(semVal ((c : Thread nD τ), SemLoc.dma sm) 0 ∗ bigSep Finset.univ (dlv c A q r Y G))

theorem NN_pos : 0 < NN := View.dmaCredit_pos _ (by decide)

/-- One wait: a row's worth consumed. -/
theorem wp_waitRow {α : Type} [∀ e, Nonempty (Elt F e)] (t : Fin 256) (off off' : Fin 2 → ℕ)
    (h : ∀ a, off a + S1x8192.size a ≤ S256x8192.size a) (h' : ∀ a, off' a + S1x8192.size a ≤ S4096x8192.size a)
    {hsrc : (((Ym.slice (Rect.unit (s := S4096x8192) off' S1x8192.size h') (fun _ => rfl)).squeeze S8192 squeezes_S1x8192_S8192).view).WordExact}
    {hdst : (((A.slice (Rect.unit (s := S256x8192) off S1x8192.size h) (fun _ => rfl)).squeeze S8192 squeezes_S1x8192_S8192).view).WordExact}
    {k : PUnit → Prog (TpuEff nD τ sig (Elt F) Λ₀ .tc) α} {Q : α → sProp 𝕄} :
    iprop(drained c A sm q r Y G t.val ∗ ∃ W, owes (c : Thread nD τ) 0 W)
      ⊢ iprop((iprop(drained c A sm q r Y G (t.val + 1) ∗ ∃ W, owes (c : Thread nD τ) 0 W) -∗ wp frame (wpE defs₀ 𝒱 (c : Thread nD τ) bd) Set.univ (k ⟨⟩) Q)
          -∗ wp frame (wpE defs₀ 𝒱 (c : Thread nD τ) bd) Set.univ
            (.op (.waitDma2 sm ((Ym.slice (Rect.unit (s := S4096x8192) off' S1x8192.size h') (fun _ => rfl)).squeeze S8192 squeezes_S1x8192_S8192)
              ((A.slice (Rect.unit (s := S256x8192) off S1x8192.size h) (fun _ => rfl)).squeeze S8192 squeezes_S1x8192_S8192) hsrc hdst) k) Q) := by
  have ht := t.isLt
  have hN : ((A.slice (Rect.unit (s := S256x8192) off S1x8192.size h) (fun _ => rfl)).squeeze S8192 squeezes_S1x8192_S8192).view.dmaCredit = NN := rfl
  unfold drained
  rw [if_pos ht]
  rcases Nat.lt_or_ge (t.val + 1) 256 with h1 | h1
  · rw [if_pos h1, Nat.succ_mul]
    iintro ⟨HB, %W, HO⟩ Hk
    iapply (Transfers.wp_waitBatch EC 𝒱 (c : Thread nD τ) bd () hN (D := dlv c A q r Y G) (u := t.val * NN) (W := W)
      (by rw [← Nat.succ_mul, Nat.mul_comm NN]; exact Nat.mul_lt_mul_of_pos_right h1 NN_pos)) $$ [HB HO]
    · isplitl [HB]; · iexact HB
      iexact HO
    iintro ⟨HB, HO⟩
    iapply Hk
    isplitl [HB]; · iexact HB
    iexists _; iexact HO
  · rw [if_neg (Nat.not_lt.mpr h1)]
    iintro ⟨HB, %W, HO⟩ Hk
    iapply (Transfers.wp_waitBatchLast EC 𝒱 (c : Thread nD τ) bd () hN NN_pos (D := dlv c A q r Y G) (u := t.val * NN) (W := W)
      (by rw [← Nat.succ_mul, Nat.mul_comm NN, show t.val.succ = 256 by omega])) $$ [HB HO]
    · isplitl [HB]; · iexact HB
      iexact HO
    iintro ⟨HD, Hs, HO⟩
    iapply Hk
    isplitl [Hs HD]
    · isplitl [Hs]; · iexact Hs
      iexact HD
    iexists _; iexact HO

end Cert.Proof.Gather

end
-- ==== Proof.Slots.lean ====
/- One slot of the gather's double buffer: a scratch buffer, its DMA semaphore and a share of the packed array. A slot is
   free (everything in hand) or in flight (256 row copies issued and none waited for); in between it is being issued or
   being drained, one row a trip. -/
module

public import proofs.«01_k».proof.Proof.Rows

@[expose] public section

noncomputable section

namespace Cert.Proof.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (A : Memref sig .tc .vmem S256x8192 .i32) (sm : DmaSem sig) (q : PosShare TreeShare)
variable (r : Fin 256 → Fin 4096) (Y : Buf (Elt F) (Ym.view.loc (c : Thread nD τ))) (G : Buf (Elt F) (A.view.loc (c : Thread nD τ)))

/-- The rectangle of lane `t`. -/
abbrev laneRect (t : Fin 256) : Rect S256x8192 := Rect.unit (s := S256x8192) ![t.val, 0] S1x8192.size (lane_inb t)

/-- Lane `t` is the buffer's row `t`. -/
theorem mem_laneRect (t : Fin 256) (y : S256x8192.Idx) : y ∈ (laneRect t).set ↔ (y 0).val = t.val := by
  rw [Rect.mem_set_unit]
  have h1 : (y 1).val < 8192 := (y 1).isLt
  constructor
  · intro H; have a0 : t.val ≤ (y 0).val ∧ (y 0).val < t.val + 1 := H 0; omega
  · intro H a; fin_cases a
    · show t.val ≤ (y 0).val ∧ (y 0).val < t.val + 1; omega
    · show 0 ≤ (y 1).val ∧ (y 1).val < 0 + 8192; omega

theorem lane_set (t : Fin 256) : (lane A t).view.set = (laneRect t).set.map A.view.emb :=
  (View.set_reshape _ _).trans (View.set_slice _ _)

theorem lane_disjoint (t t' : Fin 256) (h : t ≠ t') : Disjoint (lane A t).view.set (lane A t').view.set := by
  rw [lane_set, lane_set, Finset.disjoint_map, Finset.disjoint_left]
  intro y hy hy'; rw [mem_laneRect] at hy hy'; exact h (Fin.ext (by omega))

/-- Lane `t`'s elements, as elements of the buffer. -/
abbrev laneSet (t : Fin 256) : Finset A.view.ty.Idx := (lane A t).view.set

theorem lane_cover (hA : A.IsWhole) : Finset.univ.biUnion (laneSet A) = Finset.univ := by
  rw [← hA.set_eq_univ]
  ext y
  rw [Finset.mem_biUnion]
  constructor
  · rintro ⟨t, -, hy⟩
    change y ∈ (lane A t).view.set at hy
    rw [lane_set] at hy
    obtain ⟨x, -, rfl⟩ := Finset.mem_map.mp hy
    exact View.emb_mem_set _ x
  · intro hy
    obtain ⟨x, -, rfl⟩ := Finset.mem_map.mp hy
    refine ⟨x 0, Finset.mem_univ _, ?_⟩
    refine (lane_set A (x 0) ▸ ?_ : A.view.emb x ∈ (lane A (x 0)).view.set)
    exact Finset.mem_map.mpr ⟨x, (mem_laneRect _ _).mpr rfl, rfl⟩

/-- The scratch buffer held whole is its 256 lanes held. -/
theorem lanes_eq (hA : A.IsWhole) (f : Buf (Elt F) (A.view.loc (c : Thread nD τ))) :
    (A.view.loc (c : Thread nD τ) ↦{fullShare} f : sProp 𝕄) = bigSep Finset.univ fun t => laneAt c A t f :=
  Ring.pointsTo_blocks (ℓ := A.view.loc (c : Thread nD τ)) (q := fullShare) (laneSet A) (lane_disjoint A) (lane_cover A hA) f

/-- The gathered contents: row `t` of the buffer is row `r t` of the packed array. -/
def gat (x : S256x8192.Idx) : Elt F .i32 := Ym.view.read (Elt F) Y (ix2 (r (x 0)) (x 1))

/-- A lane of the gathered contents reads as the row it was copied from. -/
theorem gat_lane (hG : A.view.read (Elt F) G = gat c r Y) (t : Fin 256) :
    (lane A t).view.read (Elt F) G = (yrow (r t)).view.read (Elt F) Y := by
  funext x
  have key : ∀ j : S1x8192.Idx, ix2 (r ((laneRect t).emb j 0)) ((laneRect t).emb j 1)
      = (Rect.unit (s := S4096x8192) ![(r t).val, 0] S1x8192.size (yrow_inb (r t))).emb j := by
    intro j
    have h0 : (laneRect t).emb j 0 = t := Fin.ext (by
      have : (j 0).val < 1 := (j 0).isLt
      show t.val + 1 * (j 0).val = t.val; omega)
    funext a; apply Fin.ext; fin_cases a
    · show (r ((laneRect t).emb j 0)).val = (r t).val + 1 * (j 0).val
      have : (j 0).val < 1 := (j 0).isLt
      rw [h0]; omega
    · rfl
  show A.view.read (Elt F) G ((laneRect t).emb _) = Ym.view.read (Elt F) Y _
  rw [hG]
  unfold gat
  exact congrArg _ (key _)

/-- The slot's packed-array share whole. -/
abbrev ysh (q : PosShare TreeShare) : sProp 𝕄 := Ym.view.loc (c : Thread nD τ) ↦{q} Y

/-- The slot with nothing in flight, its buffer at `f`. -/
def free (f : Buf (Elt F) (A.view.loc (c : Thread nD τ))) : sProp 𝕄 :=
  iprop(semVal ((c : Thread nD τ), SemLoc.dma sm) 0 ∗ (A.view.loc (c : Thread nD τ) ↦{fullShare} f) ∗ ysh c Y q)

/-- Before trip `k` of an issue loop: `k` rows issued; the lanes and the tokens from `k` on in hand. -/
def issued (f : Buf (Elt F) (A.view.loc (c : Thread nD τ))) (k : ℕ) : sProp 𝕄 :=
  iprop(batch c A sm q r Y G k 0 ∗ bigSep (Ring.rangeSet 256 k 256) (fun t => laneAt c A t f)
    ∗ bigSep (Ring.rangeSet 256 k 256) (fun t => ysh c Y (Transfers.shareTok q 256 t))
    ∗ bigSep (Ring.rangeSet 256 0 k) (offRow c q r Y) ∗ ysh c Y (Transfers.shareDrop q 256))

/-- Before trip `k` of a drain loop: `k` rows waited for. -/
def draining (k : ℕ) : sProp 𝕄 :=
  iprop(drained c A sm q r Y G k ∗ bigSep Finset.univ (offRow c q r Y) ∗ ysh c Y (Transfers.shareDrop q 256))

/-- A free slot starts issuing: the batch is allocated on its semaphore. -/
theorem free_issue (hA : A.IsWhole) (f : Buf (Elt F) (A.view.loc (c : Thread nD τ))) :
    free c A sm q Y f ⊢ |={Set.univ}=> issued c A sm q r Y G f 0 := by
  unfold free issued
  rw [lanes_eq c A hA, Ring.rangeSet_univ, Ring.bigSep_rangeSet_empty le_rfl]
  iintro ⟨Hs, HL, HY⟩
  imod (Transfers.batch_alloc' EC (c : Thread nD τ) () NN (dlv c A q r Y G) (sm := .dma sm) (E := Set.univ)) $$ Hs with HB
  ihave HY' := (Transfers.pointsTo_toks_split q 256) $$ HY
  icases HY' with ⟨Hd, Ht⟩
  imodintro
  isplitl [HB]; · iexact HB
  isplitl [HL]; · iexact HL
  isplitl [Ht]; · iexact Ht
  isplitr; · iempintro
  iexact Hd

/-- All rows issued: the slot is in flight, none waited for. -/
theorem issued_all (f : Buf (Elt F) (A.view.loc (c : Thread nD τ))) :
    issued c A sm q r Y G f 256 ⊢ draining c A sm q r Y G 0 := by
  unfold issued draining drained
  rw [Ring.rangeSet_univ, Ring.bigSep_rangeSet_empty le_rfl, Ring.bigSep_rangeSet_empty le_rfl, if_pos (by decide), Nat.zero_mul]
  iintro ⟨HB, -, -, HO, Hd⟩
  isplitl [HB]; · iexact HB
  isplitl [HO]; · iexact HO
  iexact Hd

/-- The rows read and what was left of each token are the tokens whole. -/
theorem rows_join : iprop(bigSep Finset.univ (fun t => ((yrow (r t)).view.loc (c : Thread nD τ) ↦[(yrow (r t)).view.set]{Transfers.shareTok q 256 t} Y))
      ∗ bigSep Finset.univ (offRow c q r Y)) ⊢ (bigSep Finset.univ fun t : Fin 256 => ysh c Y (Transfers.shareTok q 256 t) : sProp 𝕄) :=
  BI.Entails.trans (Entails.of_eq (BI.bigSep_sep _ _ _).symm) (BI.bigSep_mono fun t _ =>
    (pointsTo_split_subset (ℓ := Ym.view.loc (c : Thread nD τ)) (q := Transfers.shareTok q 256 t) (f := Y) (Finset.subset_univ (yrow (r t)).view.set)).2)

/-- All rows waited for: the slot is free again, its buffer at the gathered contents. -/
theorem drained_all (hA : A.IsWhole) : draining c A sm q r Y G 256 ⊢ free c A sm q Y G := by
  unfold draining drained free
  rw [if_neg (by decide), lanes_eq c A hA]
  iintro ⟨⟨Hs, HD⟩, HO, Hd⟩
  ihave HD' := (show bigSep Finset.univ (dlv c A q r Y G) ⊢ iprop(bigSep Finset.univ (fun t => laneAt c A t G)
      ∗ bigSep Finset.univ fun t => ((yrow (r t)).view.loc (c : Thread nD τ) ↦[(yrow (r t)).view.set]{Transfers.shareTok q 256 t} Y))
    from Entails.of_eq (BI.bigSep_sep _ _ _)) $$ HD
  icases HD' with ⟨HL, HR⟩
  isplitl [Hs]; · iexact Hs
  isplitl [HL]; · iexact HL
  iapply (Transfers.pointsTo_toks_join q 256)
  isplitl [Hd]; · iexact Hd
  iapply (rows_join c q r Y)
  isplitl [HR]; · iexact HR
  iexact HO

variable (𝒱 : Variants) (bd : Option 𝒱.V)

/-- One trip's copy of an issue loop. -/
theorem wp_issueTrip {α : Type} [∀ e, Nonempty (Elt F e)] (t : Fin 256) (off off' : Fin 2 → ℕ)
    (h : ∀ a, off a + S1x8192.size a ≤ S256x8192.size a) (h' : ∀ a, off' a + S1x8192.size a ≤ S4096x8192.size a)
    (ho : off = ![t.val, 0]) (ho' : off' = ![(r t).val, 0])
    (hG : A.view.read (Elt F) G = gat c r Y)
    (f : Buf (Elt F) (A.view.loc (c : Thread nD τ)))
    {hsrc : (((Ym.slice (Rect.unit (s := S4096x8192) off' S1x8192.size h') (fun _ => rfl)).squeeze S8192 squeezes_S1x8192_S8192).view).WordExact}
    {hdst : (((A.slice (Rect.unit (s := S256x8192) off S1x8192.size h) (fun _ => rfl)).squeeze S8192 squeezes_S1x8192_S8192).view).WordExact}
    {hsem : DmaTarget.Typed (nD := nD) .hbm (.dma sm) (.here (p := (c : Thread nD τ).2) ((A.slice (Rect.unit (s := S256x8192) off S1x8192.size h) (fun _ => rfl)).squeeze S8192 squeezes_S1x8192_S8192))}
    {k : PUnit → Prog (TpuEff nD τ sig (Elt F) Λ₀ .tc) α} {Q : α → sProp 𝕄} :
    issued c A sm q r Y G f t.val
      ⊢ iprop((issued c A sm q r Y G f (t.val + 1) -∗ wp frame (wpE defs₀ 𝒱 (c : Thread nD τ) bd) Set.univ (k ⟨⟩) Q)
          -∗ wp frame (wpE defs₀ 𝒱 (c : Thread nD τ) bd) Set.univ
            (.op (.enqueueDma ((Ym.slice (Rect.unit (s := S4096x8192) off' S1x8192.size h') (fun _ => rfl)).squeeze S8192 squeezes_S1x8192_S8192)
              (.here ((A.slice (Rect.unit (s := S256x8192) off S1x8192.size h) (fun _ => rfl)).squeeze S8192 squeezes_S1x8192_S8192)) (.dma sm) hsrc hdst hsem) k) Q) := by
  have ht := t.isLt
  unfold issued
  rw [Ring.bigSep_rangeSet_head (Φ := fun t => laneAt c A t f) ht ht,
    Ring.bigSep_rangeSet_head (Φ := fun t => ysh c Y (Transfers.shareTok q 256 t)) ht ht,
    Ring.bigSep_rangeSet_last (Φ := offRow c q r Y) (lo := 0) (hi := t.val + 1) (Nat.succ_pos _) ht]
  iintro ⟨HB, ⟨HL, HLs⟩, ⟨HT, HTs⟩, HO, Hd⟩ Hk
  iapply (wp_issueRow c A sm q r Y G 𝒱 bd t off off' h h' ho ho' (gat_lane c A r Y G hG t) f) $$ [HB HL HT]
  · isplitl [HT]; · iexact HT
    isplitl [HL]; · iexact HL
    iexact HB
  iintro ⟨HB, HOt⟩
  iapply Hk
  isplitl [HB]; · iexact HB
  isplitl [HLs]; · iexact HLs
  isplitl [HTs]; · iexact HTs
  isplitr [Hd]
  · isplitl [HOt]; · iexact HOt
    iexact HO
  iexact Hd

/-- One trip's wait of a drain loop. -/
theorem wp_drainTrip {α : Type} [∀ e, Nonempty (Elt F e)] (t : Fin 256) (off off' : Fin 2 → ℕ)
    (h : ∀ a, off a + S1x8192.size a ≤ S256x8192.size a) (h' : ∀ a, off' a + S1x8192.size a ≤ S4096x8192.size a)
    {hsrc : (((Ym.slice (Rect.unit (s := S4096x8192) off' S1x8192.size h') (fun _ => rfl)).squeeze S8192 squeezes_S1x8192_S8192).view).WordExact}
    {hdst : (((A.slice (Rect.unit (s := S256x8192) off S1x8192.size h) (fun _ => rfl)).squeeze S8192 squeezes_S1x8192_S8192).view).WordExact}
    {k : PUnit → Prog (TpuEff nD τ sig (Elt F) Λ₀ .tc) α} {Q : α → sProp 𝕄} :
    iprop(draining c A sm q r Y G t.val ∗ ∃ W, owes (c : Thread nD τ) 0 W)
      ⊢ iprop((iprop(draining c A sm q r Y G (t.val + 1) ∗ ∃ W, owes (c : Thread nD τ) 0 W) -∗ wp frame (wpE defs₀ 𝒱 (c : Thread nD τ) bd) Set.univ (k ⟨⟩) Q)
          -∗ wp frame (wpE defs₀ 𝒱 (c : Thread nD τ) bd) Set.univ
            (.op (.waitDma2 sm ((Ym.slice (Rect.unit (s := S4096x8192) off' S1x8192.size h') (fun _ => rfl)).squeeze S8192 squeezes_S1x8192_S8192)
              ((A.slice (Rect.unit (s := S256x8192) off S1x8192.size h) (fun _ => rfl)).squeeze S8192 squeezes_S1x8192_S8192) hsrc hdst) k) Q) := by
  unfold draining
  iintro ⟨⟨HD, HO, Hd⟩, HW⟩ Hk
  iapply (wp_waitRow c A sm q r Y G 𝒱 bd t off off' h h') $$ [HD HW]
  · isplitl [HD]; · iexact HD
    iexact HW
  iintro ⟨HD, HW⟩
  iapply Hk
  isplitr [HW]
  · isplitl [HD]; · iexact HD
    isplitl [HO]; · iexact HO
    iexact Hd
  iexact HW

end Cert.Proof.Gather

end
-- ==== Proof.GatherLoops.lean ====
/- The five counted loops of the gather's body, one trip each: an issue loop's trip reads a word of the permutation and
   issues one row copy, a drain loop's trip reads a word and waits for one row. -/
module

public import proofs.«01_k».proof.Proof.Slots
public import proofs.«01_k».proof.Proof.Gen.Kernel.Loops

@[expose] public section

noncomputable section

namespace Cert.Proof.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (Pipeline.UD sig nD τ) ℕ
local notation "𝒱₀" => Variants.none

variable (c : Dev nD) (M1 : Memref sig .tc .smem S1x4096 .i32) (hM1 : M1.IsWhole)
variable (O : Memref sig .tc .vmem S16384x256 .f32) (hO : O.IsWhole)
variable (A0 A1 : Memref sig .tc .vmem S256x8192 .i32) (hA0 : A0.IsWhole) (hA1 : A1.IsWhole) (s0 s1 : DmaSems sig S_)
variable (p : Buf (Elt F) (M1.view.loc (c : Thread nD τ)))
variable (Y : Buf (Elt F) (Ym.view.loc (c : Thread nD τ)))

/-- Word `j` of the permutation, as the scalar memory holds it. -/
def word (j : Fin 4096) : BitVec 32 := M1.view.read (Elt F) p (ix2 0 j)

/-- The prefetch runs at every step but the last. -/
theorem cond2_lt : ∀ i : grid1.Coords, k1_cond2 i = 1#1 → (i 0).val < 15 := by decide

/-- The row a word names. -/
def rowIx (w : BitVec 32) : Fin 4096 := ⟨w.toNat % 4096, Nat.mod_lt _ (by decide)⟩

/-- The rows step `n` gathers. -/
def rowsAt (n : ℕ) (t : Fin 256) : Fin 4096 := rowIx (word c M1 p ⟨(256 * n + t.val) % 4096, Nat.mod_lt _ (by decide)⟩)

abbrev m1At (p : Buf (Elt F) (M1.view.loc (c : Thread nD τ))) : sProp 𝕄 := M1.view.loc (c : Thread nD τ) ↦{fullShare} p

/-- A word read at offset `![0, j]` is word `j`. -/
theorem word_read (off : Fin 2 → ℕ) (h : ∀ a, off a + S1x1.size a ≤ S1x4096.size a) (hn) (j : Fin 4096) (ho : off = ![0, j.val]) :
    M1.view.readAt (Elt F) (Rect.unit (s := S1x4096) off S1x1.size h).toLoadRect p (Shape.Idx.first hn) = word c M1 p j := by
  subst ho
  refine congrArg (M1.view.read (Elt F) p) ?_
  funext a; apply Fin.ext; fin_cases a
  · exact Nat.lt_one_iff.mp ((Rect.unit (s := S1x4096) ![0, j.val] S1x1.size h).emb (Shape.Idx.first hn) 0).isLt
  · have : ((Shape.Idx.first hn : (Rect.unit (s := S1x4096) ![0, j.val] S1x1.size h).shape.Idx) 1).val < 1 := Fin.isLt _
    show j.val + 1 * ((Shape.Idx.first hn : (Rect.unit (s := S1x4096) ![0, j.val] S1x1.size h).shape.Idx) 1).val = j.val
    omega

/-- A word below 4096 names a row of the packed array. -/
theorem row_inb (w : BitVec 32) (h : w.toNat < 4096) : ∀ a, (![w.toNat, 0] : Fin 2 → ℕ) a + S1x8192.size a ≤ S4096x8192.size a := by
  intro a; fin_cases a
  · show w.toNat + 1 ≤ 4096; omega
  · show 0 + 8192 ≤ 8192; omega

/-- The offset of the row a word in range names. -/
theorem row_off (hp : ∀ j, (word c M1 p j).toNat < 4096) (n : ℕ) (t : Fin 256) (j : Fin 4096) (hj : j.val = 256 * n + t.val) :
    (![(word c M1 p j).toNat, 0] : Fin 2 → ℕ) = ![(rowsAt c M1 p n t).val, 0] := by
  have : (⟨(256 * n + t.val) % 4096, Nat.mod_lt _ (by decide)⟩ : Fin 4096) = j := Fin.ext (by
    have := j.isLt; show (256 * n + t.val) % 4096 = j.val; omega)
  unfold rowsAt
  rw [this]
  show _ = ![(word c M1 p j).toNat % 4096, 0]
  rw [Nat.mod_eq_of_lt (hp j)]

/-- One trip of issue loop 1. -/
theorem t1_step (i : grid1.Coords) (h1 : k1_cond1 i = 1#1) (hp : ∀ j, (word c M1 p j).toNat < 4096)
    (q : PosShare TreeShare) (G f : Buf (Elt F) (A0.view.loc (c : Thread nD τ)))
    (hG : A0.view.read (Elt F) G = gat c (rowsAt c M1 p 0) Y) (k : Fin k1_t1_loop.trips) (acc : Unit) :
    iprop(m1At c M1 p ∗ issued c A0 s0.sem q (rowsAt c M1 p 0) Y G f k.val)
      ⊢ wp frame (wpE defs₀ 𝒱₀ (c : Thread nD τ) none) Set.univ
        (k1_t1_body (F := F) i M1 hM1 Ym (Memref.isWhole_whole _) O hO A0 hA0 A1 hA1 s0 s1 h1 k acc)
        (fun _ => iprop(m1At c M1 p ∗ issued c A0 s0.sem q (rowsAt c M1 p 0) Y G f (k.val + 1))) := by
  have hk : k.val < 256 := Nat.lt_of_lt_of_le k.isLt k1_t1_abs.2.1
  iintro ⟨HM, HI⟩
  sl_unfold [k1_t1_body]
  sl_exec
  have hw : t1_step.sl.r c M1 p i h1 k = word c M1 p ⟨k.val, by omega⟩ :=
    word_read c M1 p _ _ _ _ (k1_off1_eq k)
  have hchk : k1_chk1 i (t1_step.sl.r c M1 p i h1 k) := fun _ => by rw [hw]; exact row_inb _ (hp _)
  sl_exec
  iapply (wp_issueTrip c A0 s0.sem q (rowsAt c M1 p 0) Y G 𝒱₀ none ⟨k.val, hk⟩ _ _ _ _ (k1_off2_eq k)
    (by rw [hw]; exact row_off c M1 p hp 0 ⟨k.val, hk⟩ _ (by show k.val = 256 * 0 + k.val; omega)) hG f) $$ HI
  iintro HI
  sl_step
  isplitl [HM]; · iexact HM
  iexact HI

/-- One trip of issue loop 2. -/
theorem t2_step (i : grid1.Coords) (h2 : k1_cond2 i = 1#1) (h3 : k1_cond3 i = 1#1) (hp : ∀ j, (word c M1 p j).toNat < 4096)
    (q : PosShare TreeShare) (G f : Buf (Elt F) (A1.view.loc (c : Thread nD τ)))
    (hG : A1.view.read (Elt F) G = gat c (rowsAt c M1 p ((i 0).val + 1)) Y) (k : Fin k1_t2_loop.trips) (acc : Unit) :
    iprop(m1At c M1 p ∗ issued c A1 s1.sem q (rowsAt c M1 p ((i 0).val + 1)) Y G f k.val)
      ⊢ wp frame (wpE defs₀ 𝒱₀ (c : Thread nD τ) none) Set.univ
        (k1_t2_body (F := F) i M1 hM1 Ym (Memref.isWhole_whole _) O hO A0 hA0 A1 hA1 s0 s1 h2 h3 k acc)
        (fun _ => iprop(m1At c M1 p ∗ issued c A1 s1.sem q (rowsAt c M1 p ((i 0).val + 1)) Y G f (k.val + 1))) := by
  have hk : k.val < 256 := Nat.lt_of_lt_of_le k.isLt k1_t2_abs.2.1
  have h15 := cond2_lt i h2
  iintro ⟨HM, HI⟩
  sl_unfold [k1_t2_body]
  sl_exec
  have hw : t2_step.sl.r c M1 p i h2 h3 k = word c M1 p ⟨256 * (i 0).val + k.val + 256, by omega⟩ :=
    word_read c M1 p _ _ _ _ (k1_off4_eq i k)
  have hchk : k1_chk2 i (t2_step.sl.r c M1 p i h2 h3 k) := fun _ _ => by rw [hw]; exact row_inb _ (hp _)
  sl_exec
  iapply (wp_issueTrip c A1 s1.sem q (rowsAt c M1 p ((i 0).val + 1)) Y G 𝒱₀ none ⟨k.val, hk⟩ _ _ _ _ (k1_off5_eq k)
    (by rw [hw]; exact row_off c M1 p hp ((i 0).val + 1) ⟨k.val, hk⟩ _ (by show 256 * (i 0).val + k.val + 256 = 256 * ((i 0).val + 1) + k.val; omega)) hG f) $$ HI
  iintro HI
  sl_step
  isplitl [HM]; · iexact HM
  iexact HI

/-- One trip of issue loop 3. -/
theorem t3_step (i : grid1.Coords) (h2 : k1_cond2 i = 1#1) (h4 : k1_cond4 i = 1#1) (hp : ∀ j, (word c M1 p j).toNat < 4096)
    (q : PosShare TreeShare) (G f : Buf (Elt F) (A0.view.loc (c : Thread nD τ)))
    (hG : A0.view.read (Elt F) G = gat c (rowsAt c M1 p ((i 0).val + 1)) Y) (k : Fin k1_t3_loop.trips) (acc : Unit) :
    iprop(m1At c M1 p ∗ issued c A0 s0.sem q (rowsAt c M1 p ((i 0).val + 1)) Y G f k.val)
      ⊢ wp frame (wpE defs₀ 𝒱₀ (c : Thread nD τ) none) Set.univ
        (k1_t3_body (F := F) i M1 hM1 Ym (Memref.isWhole_whole _) O hO A0 hA0 A1 hA1 s0 s1 h2 h4 k acc)
        (fun _ => iprop(m1At c M1 p ∗ issued c A0 s0.sem q (rowsAt c M1 p ((i 0).val + 1)) Y G f (k.val + 1))) := by
  have hk : k.val < 256 := Nat.lt_of_lt_of_le k.isLt k1_t3_abs.2.1
  have h15 := cond2_lt i h2
  iintro ⟨HM, HI⟩
  sl_unfold [k1_t3_body]
  sl_exec
  have hw : t3_step.sl.r c M1 p i h2 h4 k = word c M1 p ⟨256 * (i 0).val + k.val + 256, by omega⟩ :=
    word_read c M1 p _ _ _ _ (k1_off7_eq i k)
  have hchk : k1_chk3 i (t3_step.sl.r c M1 p i h2 h4 k) := fun _ _ => by rw [hw]; exact row_inb _ (hp _)
  sl_exec
  iapply (wp_issueTrip c A0 s0.sem q (rowsAt c M1 p ((i 0).val + 1)) Y G 𝒱₀ none ⟨k.val, hk⟩ _ _ _ _ (k1_off8_eq k)
    (by rw [hw]; exact row_off c M1 p hp ((i 0).val + 1) ⟨k.val, hk⟩ _ (by show 256 * (i 0).val + k.val + 256 = 256 * ((i 0).val + 1) + k.val; omega)) hG f) $$ HI
  iintro HI
  sl_step
  isplitl [HM]; · iexact HM
  iexact HI

/-- One trip of drain loop 4. -/
theorem t4_step (i : grid1.Coords) (arg0 : BitVec 32) (hc : k1_cond5 i = 1#1) (hp : ∀ j, (word c M1 p j).toNat < 4096)
    (q : PosShare TreeShare) (r : Fin 256 → Fin 4096) (G : Buf (Elt F) (A0.view.loc (c : Thread nD τ))) (k : Fin k1_t4_loop.trips) (acc : Unit) :
    iprop(m1At c M1 p ∗ draining c A0 s0.sem q r Y G k.val ∗ ∃ W, owes (c : Thread nD τ) 0 W)
      ⊢ wp frame (wpE defs₀ 𝒱₀ (c : Thread nD τ) none) Set.univ
        (k1_t4_body (F := F) i M1 hM1 Ym (Memref.isWhole_whole _) O hO A0 hA0 A1 hA1 s0 s1 arg0 hc k acc)
        (fun _ => iprop(m1At c M1 p ∗ draining c A0 s0.sem q r Y G (k.val + 1) ∗ ∃ W, owes (c : Thread nD τ) 0 W)) := by
  have hk : k.val < 256 := Nat.lt_of_lt_of_le k.isLt k1_t4_abs.2.1
  have hi : (i 0).val < 16 := (i 0).isLt
  iintro ⟨HM, HI, HW⟩
  sl_unfold [k1_t4_body]
  sl_exec
  have hw : t4_step.sl.r c M1 p i hc k = word c M1 p ⟨256 * (i 0).val + k.val, by omega⟩ :=
    word_read c M1 p _ _ _ _ (k1_off10_eq i k)
  have hchk : k1_chk4 i (t4_step.sl.r c M1 p i hc k) := fun _ => by rw [hw]; exact row_inb _ (hp _)
  sl_exec
  iapply (wp_drainTrip c A0 s0.sem q r Y G 𝒱₀ none ⟨k.val, hk⟩ _ _ _ _) $$ [HI HW]
  · isplitl [HI]; · iexact HI
    iexact HW
  iintro ⟨HI, HW⟩
  sl_step
  isplitl [HM]; · iexact HM
  isplitl [HI]; · iexact HI
  iexact HW

/-- One trip of drain loop 5. -/
theorem t5_step (i : grid1.Coords) (arg0 : BitVec 32) (hc : k1_cond6 i = 1#1) (hp : ∀ j, (word c M1 p j).toNat < 4096)
    (q : PosShare TreeShare) (r : Fin 256 → Fin 4096) (G : Buf (Elt F) (A1.view.loc (c : Thread nD τ))) (k : Fin k1_t5_loop.trips) (acc : Unit) :
    iprop(m1At c M1 p ∗ draining c A1 s1.sem q r Y G k.val ∗ ∃ W, owes (c : Thread nD τ) 0 W)
      ⊢ wp frame (wpE defs₀ 𝒱₀ (c : Thread nD τ) none) Set.univ
        (k1_t5_body (F := F) i M1 hM1 Ym (Memref.isWhole_whole _) O hO A0 hA0 A1 hA1 s0 s1 arg0 hc k acc)
        (fun _ => iprop(m1At c M1 p ∗ draining c A1 s1.sem q r Y G (k.val + 1) ∗ ∃ W, owes (c : Thread nD τ) 0 W)) := by
  have hk : k.val < 256 := Nat.lt_of_lt_of_le k.isLt k1_t5_abs.2.1
  have hi : (i 0).val < 16 := (i 0).isLt
  iintro ⟨HM, HI, HW⟩
  sl_unfold [k1_t5_body]
  sl_exec
  have hw : t5_step.sl.r c M1 p i hc k = word c M1 p ⟨256 * (i 0).val + k.val, by omega⟩ :=
    word_read c M1 p _ _ _ _ (k1_off13_eq i k)
  have hchk : k1_chk5 i (t5_step.sl.r c M1 p i hc k) := fun _ => by rw [hw]; exact row_inb _ (hp _)
  sl_exec
  iapply (wp_drainTrip c A1 s1.sem q r Y G 𝒱₀ none ⟨k.val, hk⟩ _ _ _ _) $$ [HI HW]
  · isplitl [HI]; · iexact HI
    iexact HW
  iintro ⟨HI, HW⟩
  sl_step
  isplitl [HM]; · iexact HM
  isplitl [HI]; · iexact HI
  iexact HW

end Cert.Proof.Gather

end
-- ==== Proof.Body.lean ====
/- The gathering kernel's body: its five loops as steps of a slot, the unpacking of a full scratch buffer, and the body run
   at the first, an even, an odd and the last grid point. -/
module

public import proofs.«01_k».proof.Proof.GatherLoops

@[expose] public section

noncomputable section

namespace Cert.Proof.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (Pipeline.UD sig nD τ) ℕ
local notation "𝒱₀" => Variants.none

variable (c : Dev nD) (M1 : Memref sig .tc .smem S1x4096 .i32) (hM1 : M1.IsWhole)
variable (O : Memref sig .tc .vmem S16384x256 .f32) (hO : O.IsWhole)
variable (A0 A1 : Memref sig .tc .vmem S256x8192 .i32) (hA0 : A0.IsWhole) (hA1 : A1.IsWhole) (s0 s1 : DmaSems sig S_)
variable (p : Buf (Elt F) (M1.view.loc (c : Thread nD τ)))
variable (Y : Buf (Elt F) (Ym.view.loc (c : Thread nD τ)))

theorem trips1 : Scf.trips k1_t1_loop.lb k1_t1_loop.ub k1_t1_loop.st = 256 := by decide
theorem trips2 : Scf.trips k1_t2_loop.lb k1_t2_loop.ub k1_t2_loop.st = 256 := by decide
theorem trips3 : Scf.trips k1_t3_loop.lb k1_t3_loop.ub k1_t3_loop.st = 256 := by decide
theorem trips4 : Scf.trips k1_t4_loop.lb k1_t4_loop.ub k1_t4_loop.st = 256 := by decide
theorem trips5 : Scf.trips k1_t5_loop.lb k1_t5_loop.ub k1_t5_loop.st = 256 := by decide

/-- Issue loop 1 whole: a free slot goes in flight. -/
theorem t1_run {α : Type} (i : grid1.Coords) (h1 : k1_cond1 i = 1#1) (hp : ∀ j, (word c M1 p j).toNat < 4096)
    (q : PosShare TreeShare) (G f : Buf (Elt F) (A0.view.loc (c : Thread nD τ)))
    (hG : A0.view.read (Elt F) G = gat c (rowsAt c M1 p 0) Y)
    {k : Unit → Prog (TpuEff nD τ sig (Elt F) Λ₀ .tc) α} {Q : α → sProp 𝕄} :
    iprop(m1At c M1 p ∗ free c A0 s0.sem q Y f)
      ⊢ iprop((iprop(m1At c M1 p ∗ draining c A0 s0.sem q (rowsAt c M1 p 0) Y G 0) -∗ wp frame (wpE defs₀ 𝒱₀ (c : Thread nD τ) none) Set.univ (k ⟨⟩) Q)
        -∗ wp frame (wpE defs₀ 𝒱₀ (c : Thread nD τ) none) Set.univ
        (k1_t1_loop.for (k1_t1_ok i h1) ⟨⟩ (k1_t1_body (F := F) i M1 hM1 Ym (Memref.isWhole_whole _) O hO A0 hA0 A1 hA1 s0 s1 h1) >>= k) Q) := by
  iintro ⟨HM, HF⟩ Hk
  imod (free_issue c A0 s0.sem q (rowsAt c M1 p 0) Y G hA0 f) $$ HF with HI
  sl_for (fun k _ => iprop(m1At c M1 p ∗ issued c A0 s0.sem q (rowsAt c M1 p 0) Y G f k)) $$ [HM HI]
  · intro k acc; exact t1_step c M1 hM1 O hO A0 A1 hA0 hA1 s0 s1 p Y i h1 hp q G f hG k acc
  · isplitl [HM]; · iexact HM
    iexact HI
  rw [trips1]
  iintro %acc HL
  icases HL with ⟨HM, HI⟩
  ihave HD := issued_all c A0 s0.sem q (rowsAt c M1 p 0) Y G f $$ HI
  iapply Hk $$ [HM HD]
  isplitl [HM]; · iexact HM
  iexact HD

/-- Issue loop 2 whole: a free slot goes in flight. -/
theorem t2_run {α : Type} (i : grid1.Coords) (h2 : k1_cond2 i = 1#1) (h3 : k1_cond3 i = 1#1) (hp : ∀ j, (word c M1 p j).toNat < 4096)
    (q : PosShare TreeShare) (G f : Buf (Elt F) (A1.view.loc (c : Thread nD τ)))
    (hG : A1.view.read (Elt F) G = gat c (rowsAt c M1 p ((i 0).val + 1)) Y)
    {k : Unit → Prog (TpuEff nD τ sig (Elt F) Λ₀ .tc) α} {Q : α → sProp 𝕄} :
    iprop(m1At c M1 p ∗ free c A1 s1.sem q Y f)
      ⊢ iprop((iprop(m1At c M1 p ∗ draining c A1 s1.sem q (rowsAt c M1 p ((i 0).val + 1)) Y G 0) -∗ wp frame (wpE defs₀ 𝒱₀ (c : Thread nD τ) none) Set.univ (k ⟨⟩) Q)
        -∗ wp frame (wpE defs₀ 𝒱₀ (c : Thread nD τ) none) Set.univ
        (k1_t2_loop.for (k1_t2_ok i h2 h3) ⟨⟩ (k1_t2_body (F := F) i M1 hM1 Ym (Memref.isWhole_whole _) O hO A0 hA0 A1 hA1 s0 s1 h2 h3) >>= k) Q) := by
  iintro ⟨HM, HF⟩ Hk
  imod (free_issue c A1 s1.sem q (rowsAt c M1 p ((i 0).val + 1)) Y G hA1 f) $$ HF with HI
  sl_for (fun k _ => iprop(m1At c M1 p ∗ issued c A1 s1.sem q (rowsAt c M1 p ((i 0).val + 1)) Y G f k)) $$ [HM HI]
  · intro k acc; exact t2_step c M1 hM1 O hO A0 A1 hA0 hA1 s0 s1 p Y i h2 h3 hp q G f hG k acc
  · isplitl [HM]; · iexact HM
    iexact HI
  rw [trips2]
  iintro %acc HL
  icases HL with ⟨HM, HI⟩
  ihave HD := issued_all c A1 s1.sem q (rowsAt c M1 p ((i 0).val + 1)) Y G f $$ HI
  iapply Hk $$ [HM HD]
  isplitl [HM]; · iexact HM
  iexact HD

/-- Issue loop 3 whole: a free slot goes in flight. -/
theorem t3_run {α : Type} (i : grid1.Coords) (h2 : k1_cond2 i = 1#1) (h4 : k1_cond4 i = 1#1) (hp : ∀ j, (word c M1 p j).toNat < 4096)
    (q : PosShare TreeShare) (G f : Buf (Elt F) (A0.view.loc (c : Thread nD τ)))
    (hG : A0.view.read (Elt F) G = gat c (rowsAt c M1 p ((i 0).val + 1)) Y)
    {k : Unit → Prog (TpuEff nD τ sig (Elt F) Λ₀ .tc) α} {Q : α → sProp 𝕄} :
    iprop(m1At c M1 p ∗ free c A0 s0.sem q Y f)
      ⊢ iprop((iprop(m1At c M1 p ∗ draining c A0 s0.sem q (rowsAt c M1 p ((i 0).val + 1)) Y G 0) -∗ wp frame (wpE defs₀ 𝒱₀ (c : Thread nD τ) none) Set.univ (k ⟨⟩) Q)
        -∗ wp frame (wpE defs₀ 𝒱₀ (c : Thread nD τ) none) Set.univ
        (k1_t3_loop.for (k1_t3_ok i h2 h4) ⟨⟩ (k1_t3_body (F := F) i M1 hM1 Ym (Memref.isWhole_whole _) O hO A0 hA0 A1 hA1 s0 s1 h2 h4) >>= k) Q) := by
  iintro ⟨HM, HF⟩ Hk
  imod (free_issue c A0 s0.sem q (rowsAt c M1 p ((i 0).val + 1)) Y G hA0 f) $$ HF with HI
  sl_for (fun k _ => iprop(m1At c M1 p ∗ issued c A0 s0.sem q (rowsAt c M1 p ((i 0).val + 1)) Y G f k)) $$ [HM HI]
  · intro k acc; exact t3_step c M1 hM1 O hO A0 A1 hA0 hA1 s0 s1 p Y i h2 h4 hp q G f hG k acc
  · isplitl [HM]; · iexact HM
    iexact HI
  rw [trips3]
  iintro %acc HL
  icases HL with ⟨HM, HI⟩
  ihave HD := issued_all c A0 s0.sem q (rowsAt c M1 p ((i 0).val + 1)) Y G f $$ HI
  iapply Hk $$ [HM HD]
  isplitl [HM]; · iexact HM
  iexact HD

/-- One half of a word as a float. -/
def half (w : ℕ) (b : BitVec 32) : F .f32 :=
  FloatOps.extf .f32 (by decide) (FloatOps.ofBits .bf16 (b.extractLsb' (w * 16) 16))

/-- The output window's value from the word rows. -/
def outOf (g : S256x8192.Idx → Elt F .i32) (x : S16384x256.Idx) : Elt F .f32 :=
  half ((x 0).val / 8192) (g (ix2 (x 1) ⟨(x 0).val % 8192, Nat.mod_lt _ (by decide)⟩))

theorem unit_emb_val {s : Shape} (off size : Fin s.rank → ℕ) (inb) (j : (Rect.unit off size inb).shape.Idx) (a : Fin s.rank) :
    ((Rect.unit off size inb).emb j a : ℕ) = off a + (j a).val := by
  rw [Rect.emb_apply]
  show off a + 1 * (j a).val = _
  omega

theorem outOf_eq (g : S256x8192.Idx → Elt F .i32) (z : S16384x256.Idx) (w n : ℕ) (hn : n < 8192) (hz : (z 0).val = 8192 * w + n) :
    outOf g z = half w (g (ix2 (z 1) ⟨n, hn⟩)) := by
  have hd : (z 0).val / 8192 = w := by omega
  have hm : (z 0).val % 8192 = n := by omega
  have e : (⟨(z 0).val % 8192, Nat.mod_lt _ (by decide)⟩ : Fin 8192) = ⟨n, hn⟩ := Fin.ext hm
  unfold outOf
  rw [hd]
  exact congrArg (fun j : Fin 8192 => half w (g (ix2 (z 1) j))) e

/-- A stored block is the output's value on its rectangle: word columns from `kb`, half `w`. -/
theorem block_agree {κ : Kind} (A : Memref sig κ .vmem S256x8192 .i32) (G : A.view.ty.Contents (Elt F)) (w kb off : ℕ) (hw : w < 2) (ho : off = 8192 * w + kb)
    (hk : kb + 1024 ≤ 8192) (inbO : ∀ a, (![off, 0] : Fin 2 → ℕ) a + S1024x256.size a ≤ S16384x256.size a)
    (inbA : ∀ a, (![0, kb] : Fin 2 → ℕ) a + S256x1024.size a ≤ S256x8192.size a) (x : S1024x256.Idx) :
    transpose S1024x256 [1, 0] (unpackElementwise (F := F) w
        (A.view.readAt (Elt F) (Rect.unit (s := S256x8192) ![0, kb] S256x1024.size inbA).toLoadRect G) hw) transposes_S256x1024_p1_0_S1024x256 x
      = outOf (A.view.read (Elt F) G) ((Rect.unit (s := S16384x256) ![off, 0] S1024x256.size inbO).emb x) := by
  have hx : (x 0).val < 1024 := (x 0).isLt
  have h0 : (((Rect.unit (s := S16384x256) ![off, 0] S1024x256.size inbO).emb x 0 : Fin _) : ℕ) = off + (x 0).val :=
    unit_emb_val _ _ _ _ _
  have h1 : (((Rect.unit (s := S16384x256) ![off, 0] S1024x256.size inbO).emb x 1 : Fin _) : ℕ) = 0 + (x 1).val :=
    unit_emb_val _ _ _ _ _
  rw [outOf_eq _ _ w (kb + (x 0).val) (by omega) (by omega)]
  rw [Pointwise.transpose_apply, unpackElementwise_apply]
  refine congrArg (half w) ?_
  show A.view.read (Elt F) G _ = _
  refine congrArg (A.view.read (Elt F) G) ?_
  funext a
  refine Fin.cases ?_ (Fin.cases ?_ fun a => a.elim0) a
  · exact Fin.ext <| (unit_emb_val _ _ _ _ _).trans h1.symm
  · exact Fin.ext <| unit_emb_val _ _ _ _ _

/-- Every piece of the list writes the output's value. -/
def Agree (g : S256x8192.Idx → Elt F .i32) (L : List (View.Piece (Elt F) S16384x256 .f32)) : Prop :=
  ∀ p ∈ L, ∀ x, p.2 x = outOf g (p.1.emb x)

/-- The list's rectangles cover the output rows whose word column lies in `[a, b)`. -/
def Covers (a b : ℕ) (L : List (View.Piece (Elt F) S16384x256 .f32)) : Prop :=
  ∀ y : S16384x256.Idx, a ≤ (y 0).val % 8192 → (y 0).val % 8192 < b → ∃ p ∈ L, y ∈ p.1.set

theorem Agree.append {g : S256x8192.Idx → Elt F .i32} {L L' : List (View.Piece (Elt F) S16384x256 .f32)} (h : Agree g L) (h' : Agree g L') : Agree g (L ++ L') :=
  fun p hp => (List.mem_append.mp hp).elim (h p) (h' p)

theorem Covers.append {a b d : ℕ} {L L' : List (View.Piece (Elt F) S16384x256 .f32)} (h : Covers b d L) (h' : Covers a b L') : Covers a d (L ++ L') := by
  intro y h1 h2
  by_cases hb : (y 0).val % 8192 < b
  · obtain ⟨p, hp, hy⟩ := h' y h1 hb
    exact ⟨p, List.mem_append_right _ hp, hy⟩
  · obtain ⟨p, hp, hy⟩ := h y (Nat.le_of_not_lt hb) h2
    exact ⟨p, List.mem_append_left _ hp, hy⟩

theorem mem_block (off : ℕ) (inb : ∀ a, (![off, 0] : Fin 2 → ℕ) a + S1024x256.size a ≤ S16384x256.size a) (y : S16384x256.Idx)
    (h1 : off ≤ (y 0).val) (h2 : (y 0).val < off + 1024) : y ∈ (Rect.unit (s := S16384x256) ![off, 0] S1024x256.size inb).set := by
  rw [Rect.mem_set_unit]
  intro a
  refine Fin.cases ⟨h1, h2⟩ (Fin.cases ⟨Nat.zero_le _, ?_⟩ fun a => a.elim0) a
  show (y 1).val < 0 + 256
  have : (y 1).val < 256 := (y 1).isLt
  omega

/-- One stored block: half `w` of the loaded words, transposed. -/
def blockOf (w : ℕ) (hw : w < 2) (v : Vec F S256x1024 .i32) : FVec F S1024x256 .f32 :=
  transpose S1024x256 [1, 0] (unpackElementwise (F := F) w v hw) transposes_S256x1024_p1_0_S1024x256

/-- The words loaded from column `kb` on. -/
abbrev colsAt (A : Memref sig .tc .vmem S256x8192 .i32) (G : A.view.ty.Contents (Elt F)) (kb : ℕ)
    (inb : ∀ a, (![0, kb] : Fin 2 → ℕ) a + S256x1024.size a ≤ S256x8192.size a) : Vec F S256x1024 .i32 :=
  A.view.readAt (Elt F) (Rect.unit (s := S256x8192) ![0, kb] S256x1024.size inb).toLoadRect G

/-- The two blocks stored from the words of one column block, the later store first. -/
def blockPair (A : Memref sig .tc .vmem S256x8192 .i32) (G : A.view.ty.Contents (Elt F)) (kb hi : ℕ)
    (inbA : ∀ a, (![0, kb] : Fin 2 → ℕ) a + S256x1024.size a ≤ S256x8192.size a)
    (inbL : ∀ a, (![kb, 0] : Fin 2 → ℕ) a + S1024x256.size a ≤ S16384x256.size a)
    (inbH : ∀ a, (![hi, 0] : Fin 2 → ℕ) a + S1024x256.size a ≤ S16384x256.size a) : List (View.Piece (Elt F) S16384x256 .f32) :=
  [⟨Rect.unit (s := S16384x256) ![hi, 0] S1024x256.size inbH, blockOf 1 (by decide) (colsAt A G kb inbA)⟩,
    ⟨Rect.unit (s := S16384x256) ![kb, 0] S1024x256.size inbL, blockOf 0 (by decide) (colsAt A G kb inbA)⟩]

theorem blockPair_agree (A : Memref sig .tc .vmem S256x8192 .i32) (G : A.view.ty.Contents (Elt F)) (kb hi : ℕ) (hk : kb + 1024 ≤ 8192)
    (hh : hi = 8192 + kb) (inbA inbL inbH) : Agree (A.view.read (Elt F) G) (blockPair A G kb hi inbA inbL inbH) := by
  intro p hp
  rcases List.mem_cons.mp hp with rfl | hp
  · exact block_agree A G 1 kb hi (by decide) (by omega) hk inbH inbA
  · rcases List.mem_cons.mp hp with rfl | hp
    · exact block_agree A G 0 kb kb (by decide) (by omega) hk inbL inbA
    · exact absurd hp List.not_mem_nil

theorem blockPair_covers (A : Memref sig .tc .vmem S256x8192 .i32) (G : A.view.ty.Contents (Elt F)) (kb hi e : ℕ) (hk : kb + 1024 ≤ 8192)
    (hh : hi = 8192 + kb) (he : e = kb + 1024) (inbA inbL inbH) : Covers kb e (blockPair A G kb hi inbA inbL inbH) := by
  intro y h1 h2
  have hy : (y 0).val < 16384 := (y 0).isLt
  by_cases h : (y 0).val < 8192
  · exact ⟨_, .tail _ (.head _), mem_block kb inbL y (by omega) (by omega)⟩
  · exact ⟨_, .head _, mem_block hi inbH y (by omega) (by omega)⟩

/-- The blocks stored before word column 3072. -/
def early (A : Memref sig .tc .vmem S256x8192 .i32) (G : A.view.ty.Contents (Elt F)) : List (View.Piece (Elt F) S16384x256 .f32) :=
  blockPair A G 2048 10240 inb_S256x8192_S256x1024_0_2048 inb_S16384x256_S1024x256_2048_0 inb_S16384x256_S1024x256_10240_0 ++ (blockPair A G 1024 9216 inb_S256x8192_S256x1024_0_1024 inb_S16384x256_S1024x256_1024_0 inb_S16384x256_S1024x256_9216_0 ++ (blockPair A G 0 8192 inb_S256x8192_S256x1024_0_0 inb_S16384x256_S1024x256_0_0 inb_S16384x256_S1024x256_8192_0))

theorem early_agree (A : Memref sig .tc .vmem S256x8192 .i32) (G : A.view.ty.Contents (Elt F)) : Agree (A.view.read (Elt F) G) (early A G) :=
  (blockPair_agree A G 2048 10240 (by decide) (by decide) _ _ _).append ((blockPair_agree A G 1024 9216 (by decide) (by decide) _ _ _).append (blockPair_agree A G 0 8192 (by decide) (by decide) _ _ _))

theorem early_covers (A : Memref sig .tc .vmem S256x8192 .i32) (G : A.view.ty.Contents (Elt F)) : Covers 0 3072 (early A G) :=
  (blockPair_covers A G 2048 10240 3072 (by decide) (by decide) (by decide) _ _ _).append ((blockPair_covers A G 1024 9216 2048 (by decide) (by decide) (by decide) _ _ _).append (blockPair_covers A G 0 8192 1024 (by decide) (by decide) (by decide) _ _ _))

/-- The blocks stored from word column 3072 on. -/
def late (A : Memref sig .tc .vmem S256x8192 .i32) (G : A.view.ty.Contents (Elt F)) : List (View.Piece (Elt F) S16384x256 .f32) :=
  blockPair A G 7168 15360 inb_S256x8192_S256x1024_0_7168 inb_S16384x256_S1024x256_7168_0 inb_S16384x256_S1024x256_15360_0 ++ (blockPair A G 6144 14336 inb_S256x8192_S256x1024_0_6144 inb_S16384x256_S1024x256_6144_0 inb_S16384x256_S1024x256_14336_0 ++ (blockPair A G 5120 13312 inb_S256x8192_S256x1024_0_5120 inb_S16384x256_S1024x256_5120_0 inb_S16384x256_S1024x256_13312_0 ++ (blockPair A G 4096 12288 inb_S256x8192_S256x1024_0_4096 inb_S16384x256_S1024x256_4096_0 inb_S16384x256_S1024x256_12288_0 ++ (blockPair A G 3072 11264 inb_S256x8192_S256x1024_0_3072 inb_S16384x256_S1024x256_3072_0 inb_S16384x256_S1024x256_11264_0))))

theorem late_agree (A : Memref sig .tc .vmem S256x8192 .i32) (G : A.view.ty.Contents (Elt F)) : Agree (A.view.read (Elt F) G) (late A G) :=
  (blockPair_agree A G 7168 15360 (by decide) (by decide) _ _ _).append ((blockPair_agree A G 6144 14336 (by decide) (by decide) _ _ _).append ((blockPair_agree A G 5120 13312 (by decide) (by decide) _ _ _).append ((blockPair_agree A G 4096 12288 (by decide) (by decide) _ _ _).append (blockPair_agree A G 3072 11264 (by decide) (by decide) _ _ _))))

theorem late_covers (A : Memref sig .tc .vmem S256x8192 .i32) (G : A.view.ty.Contents (Elt F)) : Covers 3072 8192 (late A G) :=
  (blockPair_covers A G 7168 15360 8192 (by decide) (by decide) (by decide) _ _ _).append ((blockPair_covers A G 6144 14336 7168 (by decide) (by decide) (by decide) _ _ _).append ((blockPair_covers A G 5120 13312 6144 (by decide) (by decide) (by decide) _ _ _).append ((blockPair_covers A G 4096 12288 5120 (by decide) (by decide) (by decide) _ _ _).append (blockPair_covers A G 3072 11264 4096 (by decide) (by decide) (by decide) _ _ _))))

/-- After all the blocks the output window holds its value everywhere. -/
theorem blocks_done {c : Dev nD} (A : Memref sig .tc .vmem S256x8192 .i32) (G : A.view.ty.Contents (Elt F)) (O : Memref sig .tc .vmem S16384x256 .f32)
    (o : Buf (Elt F) (O.view.loc (c : Thread nD τ))) (L : List (View.Piece (Elt F) S16384x256 .f32))
    (hL : Agree (A.view.read (Elt F) G) L ∧ Covers 0 3072 L) :
    O.view.read (Elt F) (O.view.writes (Elt F) o (late A G ++ L)) = outOf (A.view.read (Elt F) G) :=
  funext fun y => View.read_writes_apply_of_pieces O.view o (outOf (A.view.read (Elt F) G)) _ ((late_agree A G).append hL.1) y
    ((late_covers A G).append hL.2 y (Nat.zero_le _) (Nat.mod_lt _ (by decide)))

/-- The drain loop of slot 0, then the first stores of its words. -/
theorem part1_run (i : grid1.Coords) (arg0 : BitVec 32) (hc : k1_cond5 i = 1#1) (hp : ∀ j, (word c M1 p j).toNat < 4096)
    (q : PosShare TreeShare) (r : Fin 256 → Fin 4096) (G : Buf (Elt F) (A0.view.loc (c : Thread nD τ))) (o : Buf (Elt F) (O.view.loc (c : Thread nD τ))) :
    iprop(m1At c M1 p ∗ draining c A0 s0.sem q r Y G 0 ∗ (∃ W, owes (c : Thread nD τ) 0 W) ∗ (O.view.loc (c : Thread nD τ) ↦{fullShare} o))
      ⊢ wp frame (wpE defs₀ 𝒱₀ (c : Thread nD τ) none) Set.univ
        (k1_part1 (F := F) i M1 hM1 Ym (Memref.isWhole_whole _) O hO A0 hA0 A1 hA1 s0 s1 arg0 hc)
        (fun v => iprop(⌜v = ⟨k1_pay9 (colsAt A0 G 3072 inb_S256x8192_S256x1024_0_3072), k1_pay10 (colsAt A0 G 3072 inb_S256x8192_S256x1024_0_3072)⟩⌝
          ∗ (∃ L, ⌜Agree (A0.view.read (Elt F) G) L ∧ Covers 0 3072 L⌝ ∗ (O.view.loc (c : Thread nD τ) ↦{fullShare} O.view.writes (Elt F) o L))
          ∗ m1At c M1 p ∗ free c A0 s0.sem q Y G ∗ (∃ W, owes (c : Thread nD τ) 0 W))) := by
  iintro ⟨HM, HD, HW, HO⟩
  simp only [k1_part1_eq_skeleton]
  unfold k1_part1_skel
  sl_for (fun k _ => iprop(m1At c M1 p ∗ draining c A0 s0.sem q r Y G k ∗ (∃ W, owes (c : Thread nD τ) 0 W))) $$ [HM HD HW]
  · intro k acc; exact t4_step c M1 hM1 O hO A0 A1 hA0 hA1 s0 s1 p Y i arg0 hc hp q r G k acc
  · isplitl [HM]; · iexact HM
    isplitl [HD]; · iexact HD
    iexact HW
  rw [trips4]
  iintro %acc HL
  icases HL with ⟨HM, HD, HW⟩
  ihave HF := drained_all c A0 s0.sem q r Y G hA0 $$ HD
  unfold free
  icases HF with ⟨Hs, HA, HY⟩
  sl_exec
  sl_step
  isplitr [HO HM HW Hs HA HY]
  · ipureintro; rfl
  isplitl [HO]
  · iexists _
    isplitr [HO]
    rotate_left
    · iexact HO
    ipureintro
    exact ⟨early_agree A0 G, early_covers A0 G⟩
  isplitl [HM]; · iexact HM
  isplitr [HW]
  · isplitl [Hs]; · iexact Hs
    isplitl [HA]; · iexact HA
    iexact HY
  iexact HW

/-- The drain loop of slot 1, then the first stores of its words. -/
theorem part3_run (i : grid1.Coords) (arg0 : BitVec 32) (hc : k1_cond6 i = 1#1) (hp : ∀ j, (word c M1 p j).toNat < 4096)
    (q : PosShare TreeShare) (r : Fin 256 → Fin 4096) (G : Buf (Elt F) (A1.view.loc (c : Thread nD τ))) (o : Buf (Elt F) (O.view.loc (c : Thread nD τ))) :
    iprop(m1At c M1 p ∗ draining c A1 s1.sem q r Y G 0 ∗ (∃ W, owes (c : Thread nD τ) 0 W) ∗ (O.view.loc (c : Thread nD τ) ↦{fullShare} o))
      ⊢ wp frame (wpE defs₀ 𝒱₀ (c : Thread nD τ) none) Set.univ
        (k1_part3 (F := F) i M1 hM1 Ym (Memref.isWhole_whole _) O hO A0 hA0 A1 hA1 s0 s1 arg0 hc)
        (fun v => iprop(⌜v = ⟨k1_pay26 (colsAt A1 G 3072 inb_S256x8192_S256x1024_0_3072), k1_pay27 (colsAt A1 G 3072 inb_S256x8192_S256x1024_0_3072)⟩⌝
          ∗ (∃ L, ⌜Agree (A1.view.read (Elt F) G) L ∧ Covers 0 3072 L⌝ ∗ (O.view.loc (c : Thread nD τ) ↦{fullShare} O.view.writes (Elt F) o L))
          ∗ m1At c M1 p ∗ free c A1 s1.sem q Y G ∗ (∃ W, owes (c : Thread nD τ) 0 W))) := by
  iintro ⟨HM, HD, HW, HO⟩
  simp only [k1_part3_eq_skeleton]
  unfold k1_part3_skel
  sl_for (fun k _ => iprop(m1At c M1 p ∗ draining c A1 s1.sem q r Y G k ∗ (∃ W, owes (c : Thread nD τ) 0 W))) $$ [HM HD HW]
  · intro k acc; exact t5_step c M1 hM1 O hO A0 A1 hA0 hA1 s0 s1 p Y i arg0 hc hp q r G k acc
  · isplitl [HM]; · iexact HM
    isplitl [HD]; · iexact HD
    iexact HW
  rw [trips5]
  iintro %acc HL
  icases HL with ⟨HM, HD, HW⟩
  ihave HF := drained_all c A1 s1.sem q r Y G hA1 $$ HD
  unfold free
  icases HF with ⟨Hs, HA, HY⟩
  sl_exec
  sl_step
  isplitr [HO HM HW Hs HA HY]
  · ipureintro; rfl
  isplitl [HO]
  · iexists _
    isplitr [HO]
    rotate_left
    · iexact HO
    ipureintro
    exact ⟨early_agree A1 G, early_covers A1 G⟩
  isplitl [HM]; · iexact HM
  isplitr [HW]
  · isplitl [Hs]; · iexact Hs
    isplitl [HA]; · iexact HA
    iexact HY
  iexact HW

/-- Running one program before the rest: its postcondition is handed on. -/
theorem run_then {α : Type} {p p' : Prog (TpuEff nD τ sig (Elt F) Λ₀ .tc) α} {P : sProp 𝕄} {R Q : α → sProp 𝕄}
    (h : P ⊢ wp frame (wpE defs₀ 𝒱₀ (c : Thread nD τ) none) Set.univ p R) (e : p = p') :
    P ⊢ iprop((∀ v, R v -∗ Q v) -∗ wp frame (wpE defs₀ 𝒱₀ (c : Thread nD τ) none) Set.univ p' Q) := by
  subst e
  exact BI.Entails.trans h (wp_wand _ _ _)

/-- The first step: issue its own rows and the next step's, then drain slot 0. -/
theorem body_first (i : grid1.Coords) (h1 : k1_cond1 i = 1#1) (h2 : k1_cond2 i = 1#1) (h3 : k1_cond3 i = 1#1) (h4 : ¬ k1_cond4 i = 1#1) (h5 : k1_cond5 i = 1#1) (h6 : ¬ k1_cond6 i = 1#1)
    (hp : ∀ j, (word c M1 p j).toNat < 4096) (q0 q1 : PosShare TreeShare)
    (G0 f0 : Buf (Elt F) (A0.view.loc (c : Thread nD τ))) (G1 f1 : Buf (Elt F) (A1.view.loc (c : Thread nD τ)))
    (hG0 : A0.view.read (Elt F) G0 = gat c (rowsAt c M1 p 0) Y) (hG1 : A1.view.read (Elt F) G1 = gat c (rowsAt c M1 p ((i 0).val + 1)) Y) (o : Buf (Elt F) (O.view.loc (c : Thread nD τ))) :
    iprop(m1At c M1 p ∗ free c A0 s0.sem q0 Y f0 ∗ free c A1 s1.sem q1 Y f1 ∗ (∃ W, owes (c : Thread nD τ) 0 W)
        ∗ (O.view.loc (c : Thread nD τ) ↦{fullShare} o))
      ⊢ wp frame (wpE defs₀ 𝒱₀ (c : Thread nD τ) none) Set.univ
        (cc1__gather_t_body (F := F) i M1 hM1 Ym (Memref.isWhole_whole _) O hO A0 hA0 A1 hA1 s0 s1)
        (fun _ => iprop(m1At c M1 p ∗ free c A0 s0.sem q0 Y G0 ∗ draining c A1 s1.sem q1 (rowsAt c M1 p ((i 0).val + 1)) Y G1 0 ∗ (∃ W, owes (c : Thread nD τ) 0 W)
          ∗ (∃ o', ⌜O.view.read (Elt F) o' = outOf (A0.view.read (Elt F) G0)⌝ ∗ (O.view.loc (c : Thread nD τ) ↦{fullShare} o')))) := by
  iintro ⟨HM, HA, HB, HW, HO⟩
  simp only [cc1__gather_t_body_eq_skeleton]
  unfold cc1__gather_t_body_skel
  sl_exec
  iapply (t1_run c M1 hM1 O hO A0 A1 hA0 hA1 s0 s1 p Y i h1 hp q0 G0 f0 hG0) $$ [HM HA]
  · isplitl [HM]; · iexact HM
    iexact HA
  iintro HL
  icases HL with ⟨HM, HA⟩
  sl_exec
  iapply (t2_run c M1 hM1 O hO A0 A1 hA0 hA1 s0 s1 p Y i h2 h3 hp q1 G1 f1 hG1) $$ [HM HB]
  · isplitl [HM]; · iexact HM
    iexact HB
  iintro HL
  icases HL with ⟨HM, HB⟩
  sl_exec
  have hr := fun Q => run_then c (Q := Q) (part1_run c M1 hM1 O hO A0 A1 hA0 hA1 s0 s1 p Y i (BitVec.ofNat 32 (i 0).val) h5 hp q0 (rowsAt c M1 p 0) G0 o) rfl
  rw [k1_part1_eq_skeleton] at hr
  unfold k1_part1_skel at hr
  iapply (hr _) $$ [HM HA HW HO]
  · isplitl [HM]; · iexact HM
    isplitl [HA]; · iexact HA
    isplitl [HW]; · iexact HW
    iexact HO
  iintro %v ⟨%hv, ⟨%L, %hL, HO⟩, HM, HA, HW⟩
  subst hv
  unfold free
  icases HA with ⟨Hs, HA, HY⟩
  sl_exec
  sl_step
  isplitl [HM]; · iexact HM
  isplitl [Hs HA HY]
  · isplitl [Hs]; · iexact Hs
    isplitl [HA]; · iexact HA
    iexact HY
  isplitl [HB]; · iexact HB
  isplitl [HW]; · iexact HW
  iexists _
  isplitr [HO]
  rotate_left
  · iexact HO
  ipureintro
  exact blocks_done (c := c) A0 G0 O o L hL

/-- An even step after the first: issue the next step's rows into slot 1, drain slot 0. -/
theorem body_even (i : grid1.Coords) (h1 : ¬ k1_cond1 i = 1#1) (h2 : k1_cond2 i = 1#1) (h3 : k1_cond3 i = 1#1) (h4 : ¬ k1_cond4 i = 1#1) (h5 : k1_cond5 i = 1#1) (h6 : ¬ k1_cond6 i = 1#1)
    (hp : ∀ j, (word c M1 p j).toNat < 4096) (q0 q1 : PosShare TreeShare)
    (G0 f0 : Buf (Elt F) (A0.view.loc (c : Thread nD τ))) (G1 f1 : Buf (Elt F) (A1.view.loc (c : Thread nD τ)))
    (hG1 : A1.view.read (Elt F) G1 = gat c (rowsAt c M1 p ((i 0).val + 1)) Y) (o : Buf (Elt F) (O.view.loc (c : Thread nD τ))) :
    iprop(m1At c M1 p ∗ draining c A0 s0.sem q0 (rowsAt c M1 p (i 0).val) Y G0 0 ∗ free c A1 s1.sem q1 Y f1 ∗ (∃ W, owes (c : Thread nD τ) 0 W)
        ∗ (O.view.loc (c : Thread nD τ) ↦{fullShare} o))
      ⊢ wp frame (wpE defs₀ 𝒱₀ (c : Thread nD τ) none) Set.univ
        (cc1__gather_t_body (F := F) i M1 hM1 Ym (Memref.isWhole_whole _) O hO A0 hA0 A1 hA1 s0 s1)
        (fun _ => iprop(m1At c M1 p ∗ free c A0 s0.sem q0 Y G0 ∗ draining c A1 s1.sem q1 (rowsAt c M1 p ((i 0).val + 1)) Y G1 0 ∗ (∃ W, owes (c : Thread nD τ) 0 W)
          ∗ (∃ o', ⌜O.view.read (Elt F) o' = outOf (A0.view.read (Elt F) G0)⌝ ∗ (O.view.loc (c : Thread nD τ) ↦{fullShare} o')))) := by
  iintro ⟨HM, HA, HB, HW, HO⟩
  simp only [cc1__gather_t_body_eq_skeleton]
  unfold cc1__gather_t_body_skel
  sl_exec
  iapply (t2_run c M1 hM1 O hO A0 A1 hA0 hA1 s0 s1 p Y i h2 h3 hp q1 G1 f1 hG1) $$ [HM HB]
  · isplitl [HM]; · iexact HM
    iexact HB
  iintro HL
  icases HL with ⟨HM, HB⟩
  sl_exec
  have hr := fun Q => run_then c (Q := Q) (part1_run c M1 hM1 O hO A0 A1 hA0 hA1 s0 s1 p Y i (BitVec.ofNat 32 (i 0).val) h5 hp q0 (rowsAt c M1 p (i 0).val) G0 o) rfl
  rw [k1_part1_eq_skeleton] at hr
  unfold k1_part1_skel at hr
  iapply (hr _) $$ [HM HA HW HO]
  · isplitl [HM]; · iexact HM
    isplitl [HA]; · iexact HA
    isplitl [HW]; · iexact HW
    iexact HO
  iintro %v ⟨%hv, ⟨%L, %hL, HO⟩, HM, HA, HW⟩
  subst hv
  unfold free
  icases HA with ⟨Hs, HA, HY⟩
  sl_exec
  sl_step
  isplitl [HM]; · iexact HM
  isplitl [Hs HA HY]
  · isplitl [Hs]; · iexact Hs
    isplitl [HA]; · iexact HA
    iexact HY
  isplitl [HB]; · iexact HB
  isplitl [HW]; · iexact HW
  iexists _
  isplitr [HO]
  rotate_left
  · iexact HO
  ipureintro
  exact blocks_done (c := c) A0 G0 O o L hL

/-- An odd step before the last: issue the next step's rows into slot 0, drain slot 1. -/
theorem body_odd (i : grid1.Coords) (h1 : ¬ k1_cond1 i = 1#1) (h2 : k1_cond2 i = 1#1) (h3 : ¬ k1_cond3 i = 1#1) (h4 : k1_cond4 i = 1#1) (h5 : ¬ k1_cond5 i = 1#1) (h6 : k1_cond6 i = 1#1)
    (hp : ∀ j, (word c M1 p j).toNat < 4096) (q0 q1 : PosShare TreeShare)
    (G0 f0 : Buf (Elt F) (A0.view.loc (c : Thread nD τ))) (G1 f1 : Buf (Elt F) (A1.view.loc (c : Thread nD τ)))
    (hG0 : A0.view.read (Elt F) G0 = gat c (rowsAt c M1 p ((i 0).val + 1)) Y) (o : Buf (Elt F) (O.view.loc (c : Thread nD τ))) :
    iprop(m1At c M1 p ∗ draining c A1 s1.sem q1 (rowsAt c M1 p (i 0).val) Y G1 0 ∗ free c A0 s0.sem q0 Y f0 ∗ (∃ W, owes (c : Thread nD τ) 0 W)
        ∗ (O.view.loc (c : Thread nD τ) ↦{fullShare} o))
      ⊢ wp frame (wpE defs₀ 𝒱₀ (c : Thread nD τ) none) Set.univ
        (cc1__gather_t_body (F := F) i M1 hM1 Ym (Memref.isWhole_whole _) O hO A0 hA0 A1 hA1 s0 s1)
        (fun _ => iprop(m1At c M1 p ∗ free c A1 s1.sem q1 Y G1 ∗ draining c A0 s0.sem q0 (rowsAt c M1 p ((i 0).val + 1)) Y G0 0 ∗ (∃ W, owes (c : Thread nD τ) 0 W)
          ∗ (∃ o', ⌜O.view.read (Elt F) o' = outOf (A1.view.read (Elt F) G1)⌝ ∗ (O.view.loc (c : Thread nD τ) ↦{fullShare} o')))) := by
  iintro ⟨HM, HA, HB, HW, HO⟩
  simp only [cc1__gather_t_body_eq_skeleton]
  unfold cc1__gather_t_body_skel
  sl_exec
  iapply (t3_run c M1 hM1 O hO A0 A1 hA0 hA1 s0 s1 p Y i h2 h4 hp q0 G0 f0 hG0) $$ [HM HB]
  · isplitl [HM]; · iexact HM
    iexact HB
  iintro HL
  icases HL with ⟨HM, HB⟩
  sl_exec
  have hr := fun Q => run_then c (Q := Q) (part3_run c M1 hM1 O hO A0 A1 hA0 hA1 s0 s1 p Y i (BitVec.ofNat 32 (i 0).val) h6 hp q1 (rowsAt c M1 p (i 0).val) G1 o) rfl
  rw [k1_part3_eq_skeleton] at hr
  unfold k1_part3_skel at hr
  iapply (hr _) $$ [HM HA HW HO]
  · isplitl [HM]; · iexact HM
    isplitl [HA]; · iexact HA
    isplitl [HW]; · iexact HW
    iexact HO
  iintro %v ⟨%hv, ⟨%L, %hL, HO⟩, HM, HA, HW⟩
  subst hv
  unfold free
  icases HA with ⟨Hs, HA, HY⟩
  sl_exec
  sl_step
  isplitl [HM]; · iexact HM
  isplitl [Hs HA HY]
  · isplitl [Hs]; · iexact Hs
    isplitl [HA]; · iexact HA
    iexact HY
  isplitl [HB]; · iexact HB
  isplitl [HW]; · iexact HW
  iexists _
  isplitr [HO]
  rotate_left
  · iexact HO
  ipureintro
  exact blocks_done (c := c) A1 G1 O o L hL

/-- The last step: drain slot 1. -/
theorem body_last (i : grid1.Coords) (h1 : ¬ k1_cond1 i = 1#1) (h2 : ¬ k1_cond2 i = 1#1) (h3 : ¬ k1_cond3 i = 1#1) (h4 : k1_cond4 i = 1#1) (h5 : ¬ k1_cond5 i = 1#1) (h6 : k1_cond6 i = 1#1)
    (hp : ∀ j, (word c M1 p j).toNat < 4096) (q0 q1 : PosShare TreeShare)
    (G0 f0 : Buf (Elt F) (A0.view.loc (c : Thread nD τ))) (G1 f1 : Buf (Elt F) (A1.view.loc (c : Thread nD τ)))
    (o : Buf (Elt F) (O.view.loc (c : Thread nD τ))) :
    iprop(m1At c M1 p ∗ draining c A1 s1.sem q1 (rowsAt c M1 p (i 0).val) Y G1 0 ∗ free c A0 s0.sem q0 Y f0 ∗ (∃ W, owes (c : Thread nD τ) 0 W)
        ∗ (O.view.loc (c : Thread nD τ) ↦{fullShare} o))
      ⊢ wp frame (wpE defs₀ 𝒱₀ (c : Thread nD τ) none) Set.univ
        (cc1__gather_t_body (F := F) i M1 hM1 Ym (Memref.isWhole_whole _) O hO A0 hA0 A1 hA1 s0 s1)
        (fun _ => iprop(m1At c M1 p ∗ free c A1 s1.sem q1 Y G1 ∗ free c A0 s0.sem q0 Y f0 ∗ (∃ W, owes (c : Thread nD τ) 0 W)
          ∗ (∃ o', ⌜O.view.read (Elt F) o' = outOf (A1.view.read (Elt F) G1)⌝ ∗ (O.view.loc (c : Thread nD τ) ↦{fullShare} o')))) := by
  iintro ⟨HM, HA, HB, HW, HO⟩
  simp only [cc1__gather_t_body_eq_skeleton]
  unfold cc1__gather_t_body_skel
  sl_exec
  have hr := fun Q => run_then c (Q := Q) (part3_run c M1 hM1 O hO A0 A1 hA0 hA1 s0 s1 p Y i (BitVec.ofNat 32 (i 0).val) h6 hp q1 (rowsAt c M1 p (i 0).val) G1 o) rfl
  rw [k1_part3_eq_skeleton] at hr
  unfold k1_part3_skel at hr
  iapply (hr _) $$ [HM HA HW HO]
  · isplitl [HM]; · iexact HM
    isplitl [HA]; · iexact HA
    isplitl [HW]; · iexact HW
    iexact HO
  iintro %v ⟨%hv, ⟨%L, %hL, HO⟩, HM, HA, HW⟩
  subst hv
  unfold free
  icases HA with ⟨Hs, HA, HY⟩
  sl_exec
  sl_step
  isplitl [HM]; · iexact HM
  isplitl [Hs HA HY]
  · isplitl [Hs]; · iexact Hs
    isplitl [HA]; · iexact HA
    iexact HY
  isplitl [HB]; · iexact HB
  isplitl [HW]; · iexact HW
  iexists _
  isplitr [HO]
  rotate_left
  · iexact HO
  ipureintro
  exact blocks_done (c := c) A1 G1 O o L hL

end Cert.Proof.Gather

end
-- ==== Proof.Pack.lean ====
/- The packing kernel's body: eight chunks of rows, each transposed and packed in pairs, fill one block of words. -/
module

public import proofs.«01_k».proof.Proof.Body
public import proofs.«01_k».proof.Proof.Gen.Kernel.Regions
public import Idealize.ShloMosaic.Lib.Tactic

@[expose] public section

noncomputable section

namespace Cert.Proof.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [BitOps F] [∀ e, Nonempty (Elt F e)]

local notation "𝕄" => MT nD τ sig Unit (Elt F) ℕ (Pipeline.UD sig nD τ) ℕ
local notation "𝒱₀" => Variants.none

/-- Two floats rounded to bf16 and packed into one word, the first in the low half. -/
def pack2 (lo hi : F .f32) : BitVec 32 :=
  BitOps.toBits (FloatOps.truncf .bf16 (by decide) hi) ++ BitOps.toBits (FloatOps.truncf .bf16 (by decide) lo)

/-- The packed words of one staged block of `x`: column `j 0` of the block, rows `j 1` and `8192 + j 1`. -/
def packOf (g : S16384x256.Idx → Elt F .f32) (j : S256x8192.Idx) : Elt F .i32 :=
  pack2 (g (ix2 (⟨(j 1).val, Nat.lt_of_lt_of_le (j 1).isLt (by decide)⟩ : Fin 16384) (j 0)))
    (g (ix2 (⟨8192 + (j 1).val, by have : (j 1).val < 8192 := (j 1).isLt; omega⟩ : Fin 16384) (j 0)))

/-- The rows loaded from row `r` on. -/
abbrev rowsFrom (A : Memref sig .tc .vmem S16384x256 .f32) (G : A.view.ty.Contents (Elt F)) (r : ℕ)
    (inb : ∀ a, (![r, 0] : Fin 2 → ℕ) a + S1024x256.size a ≤ S16384x256.size a) : Vec F S1024x256 .f32 :=
  A.view.readAt (Elt F) (Rect.unit (s := S16384x256) ![r, 0] S1024x256.size inb).toLoadRect G

theorem rowsFrom_apply (A : Memref sig .tc .vmem S16384x256 .f32) (G : A.view.ty.Contents (Elt F)) (r : ℕ) (inb)
    (x : S256x1024.Idx) (i0 : Fin 16384) (i1 : Fin 256) (h0 : i0.val = r + (x 1).val) (h1 : i1.val = (x 0).val) :
    transpose S256x1024 [1, 0] (rowsFrom A G r inb) transposes_S1024x256_p1_0_S256x1024 x = A.view.read (Elt F) G (ix2 i0 i1) := by
  rw [Pointwise.transpose_apply]
  show A.view.read (Elt F) G _ = _
  refine congrArg (A.view.read (Elt F) G) ?_
  funext a
  refine Fin.cases ?_ (Fin.cases ?_ fun a => a.elim0) a
  · exact Fin.ext <| (unit_emb_val _ _ _ _ _).trans h0.symm
  · refine Fin.ext <| (unit_emb_val _ _ _ _ _).trans ?_
    show 0 + (x 0).val = i1.val
    omega

/-- One stored block of packed words. -/
def packBlock (A : Memref sig .tc .vmem S16384x256 .f32) (G : A.view.ty.Contents (Elt F)) (kb hi : ℕ)
    (inbA : ∀ a, (![0, kb] : Fin 2 → ℕ) a + S256x1024.size a ≤ S256x8192.size a)
    (inbL : ∀ a, (![kb, 0] : Fin 2 → ℕ) a + S1024x256.size a ≤ S16384x256.size a)
    (inbH : ∀ a, (![hi, 0] : Fin 2 → ℕ) a + S1024x256.size a ≤ S16384x256.size a) : View.Piece (Elt F) S256x8192 .i32 :=
  ⟨Rect.unit (s := S256x8192) ![0, kb] S256x1024.size inbA,
    packElementwise (F := F) (transpose S256x1024 [1, 0] (rowsFrom A G kb inbL) transposes_S1024x256_p1_0_S256x1024)
      (transpose S256x1024 [1, 0] (rowsFrom A G hi inbH) transposes_S1024x256_p1_0_S256x1024)⟩

theorem packBlock_agree (A : Memref sig .tc .vmem S16384x256 .f32) (G : A.view.ty.Contents (Elt F)) (kb hi : ℕ) (hh : hi = 8192 + kb) (inbA inbL inbH)
    (x : (packBlock A G kb hi inbA inbL inbH).1.shape.Idx) :
    (packBlock A G kb hi inbA inbL inbH).2 x = packOf (A.view.read (Elt F) G) ((packBlock A G kb hi inbA inbL inbH).1.emb x) := by
  have h0 : (((Rect.unit (s := S256x8192) ![0, kb] S256x1024.size inbA).emb x 0 : Fin _) : ℕ) = 0 + (x 0).val := unit_emb_val _ _ _ _ _
  have h1 : (((Rect.unit (s := S256x8192) ![0, kb] S256x1024.size inbA).emb x 1 : Fin _) : ℕ) = kb + (x 1).val := unit_emb_val _ _ _ _ _
  refine (packElementwise_apply (F := F) _ _ x).trans ?_
  unfold packOf
  refine Eq.trans ?_ (congrArg₂ pack2 (rowsFrom_apply A G kb inbL x _ _ h1 (h0.trans (Nat.zero_add _))) (rowsFrom_apply A G hi inbH x _ _ (by
    show 8192 + _ = _
    refine (congrArg (8192 + ·) h1).trans ?_
    omega) (h0.trans (Nat.zero_add _))))
  rfl

/-- The blocks of packed words, the last stored first. -/
def packBlocks (A : Memref sig .tc .vmem S16384x256 .f32) (G : A.view.ty.Contents (Elt F)) : List (View.Piece (Elt F) S256x8192 .i32) :=
  [packBlock A G 7168 15360 inb_S256x8192_S256x1024_0_7168 inb_S16384x256_S1024x256_7168_0 inb_S16384x256_S1024x256_15360_0,
    packBlock A G 6144 14336 inb_S256x8192_S256x1024_0_6144 inb_S16384x256_S1024x256_6144_0 inb_S16384x256_S1024x256_14336_0,
    packBlock A G 5120 13312 inb_S256x8192_S256x1024_0_5120 inb_S16384x256_S1024x256_5120_0 inb_S16384x256_S1024x256_13312_0,
    packBlock A G 4096 12288 inb_S256x8192_S256x1024_0_4096 inb_S16384x256_S1024x256_4096_0 inb_S16384x256_S1024x256_12288_0,
    packBlock A G 3072 11264 inb_S256x8192_S256x1024_0_3072 inb_S16384x256_S1024x256_3072_0 inb_S16384x256_S1024x256_11264_0,
    packBlock A G 2048 10240 inb_S256x8192_S256x1024_0_2048 inb_S16384x256_S1024x256_2048_0 inb_S16384x256_S1024x256_10240_0,
    packBlock A G 1024 9216 inb_S256x8192_S256x1024_0_1024 inb_S16384x256_S1024x256_1024_0 inb_S16384x256_S1024x256_9216_0,
    packBlock A G 0 8192 inb_S256x8192_S256x1024_0_0 inb_S16384x256_S1024x256_0_0 inb_S16384x256_S1024x256_8192_0]

theorem packBlocks_done {c : Dev nD} (A : Memref sig .tc .vmem S16384x256 .f32) (G : A.view.ty.Contents (Elt F)) (M : Memref sig .tc .vmem S256x8192 .i32)
    (f : Buf (Elt F) (M.view.loc (c : Thread nD τ))) :
    M.view.read (Elt F) (M.view.writes (Elt F) f (packBlocks A G)) = packOf (A.view.read (Elt F) G) := by
  funext y
  refine View.read_writes_apply_of_pieces M.view f (packOf (A.view.read (Elt F) G)) _ ?_ y ?_
  · refine List.forall_iff_forall_mem.mp ?_
    exact ⟨packBlock_agree A G 7168 15360 rfl _ _ _, packBlock_agree A G 6144 14336 rfl _ _ _, packBlock_agree A G 5120 13312 rfl _ _ _, packBlock_agree A G 4096 12288 rfl _ _ _, packBlock_agree A G 3072 11264 rfl _ _ _, packBlock_agree A G 2048 10240 rfl _ _ _, packBlock_agree A G 1024 9216 rfl _ _ _, packBlock_agree A G 0 8192 rfl _ _ _⟩
  · have hy0 : (y 0).val < 256 := (y 0).isLt
    have hy1 : (y 1).val < 8192 := (y 1).isLt
    have hm : ∀ (kb : ℕ) (inb : ∀ a, (![0, kb] : Fin 2 → ℕ) a + S256x1024.size a ≤ S256x8192.size a), kb ≤ (y 1).val → (y 1).val < kb + 1024 →
        y ∈ (Rect.unit (s := S256x8192) ![0, kb] S256x1024.size inb).set := by
      intro kb inb h1 h2
      rw [Rect.mem_set_unit]
      intro a
      refine Fin.cases ⟨Nat.zero_le _, ?_⟩ (Fin.cases ⟨h1, h2⟩ fun a => a.elim0) a
      show (y 0).val < 0 + 256
      omega
    have hk : (y 1).val / 1024 < 8 := by omega
    rcases (show (7168 ≤ (y 1).val ∧ (y 1).val < 7168 + 1024) ∨ (6144 ≤ (y 1).val ∧ (y 1).val < 6144 + 1024) ∨ (5120 ≤ (y 1).val ∧ (y 1).val < 5120 + 1024) ∨ (4096 ≤ (y 1).val ∧ (y 1).val < 4096 + 1024) ∨ (3072 ≤ (y 1).val ∧ (y 1).val < 3072 + 1024) ∨ (2048 ≤ (y 1).val ∧ (y 1).val < 2048 + 1024) ∨ (1024 ≤ (y 1).val ∧ (y 1).val < 1024 + 1024) ∨ (0 ≤ (y 1).val ∧ (y 1).val < 0 + 1024) by omega) with h | h | h | h | h | h | h | h
    · exact ⟨_, .head _, hm 7168 inb_S256x8192_S256x1024_0_7168 h.1 h.2⟩
    · exact ⟨_, .tail _ (.head _), hm 6144 inb_S256x8192_S256x1024_0_6144 h.1 h.2⟩
    · exact ⟨_, .tail _ (.tail _ (.head _)), hm 5120 inb_S256x8192_S256x1024_0_5120 h.1 h.2⟩
    · exact ⟨_, .tail _ (.tail _ (.tail _ (.head _))), hm 4096 inb_S256x8192_S256x1024_0_4096 h.1 h.2⟩
    · exact ⟨_, .tail _ (.tail _ (.tail _ (.tail _ (.head _)))), hm 3072 inb_S256x8192_S256x1024_0_3072 h.1 h.2⟩
    · exact ⟨_, .tail _ (.tail _ (.tail _ (.tail _ (.tail _ (.head _))))), hm 2048 inb_S256x8192_S256x1024_0_2048 h.1 h.2⟩
    · exact ⟨_, .tail _ (.tail _ (.tail _ (.tail _ (.tail _ (.tail _ (.head _)))))), hm 1024 inb_S256x8192_S256x1024_0_1024 h.1 h.2⟩
    · exact ⟨_, .tail _ (.tail _ (.tail _ (.tail _ (.tail _ (.tail _ (.tail _ (.head _))))))), hm 0 inb_S256x8192_S256x1024_0_0 h.1 h.2⟩

/-- The packing kernel's body: from a staged block of `x`, the output block is left at its packed words. -/
theorem pack_body (c : Dev nD) (i : grid0.Coords) (M0 : Memref sig .tc .vmem S16384x256 .f32) (h0 : M0.IsWhole) (M1 : Memref sig .tc .vmem S256x8192 .i32) (h1 : M1.IsWhole)
    (f0 : Buf (Elt F) (M0.view.loc (c : Thread nD τ))) (f1 : Buf (Elt F) (M1.view.loc (c : Thread nD τ))) :
    (iprop((M0.view.loc (c : Thread nD τ) ↦{fullShare} f0) ∗ (M1.view.loc (c : Thread nD τ) ↦{fullShare} f1)) : sProp 𝕄)
      ⊢ wp frame (wpE defs₀ 𝒱₀ (c : Thread nD τ) none) Set.univ (cc0__transpose_pack_body (F := F) i M0 h0 M1 h1)
        (fun _ => iprop((M0.view.loc (c : Thread nD τ) ↦{fullShare} f0)
          ∗ (∃ f', ⌜M1.view.read (Elt F) f' = packOf (M0.view.read (Elt F) f0)⌝ ∗ (M1.view.loc (c : Thread nD τ) ↦{fullShare} f')))) := by
  iintro ⟨H0, H1⟩
  simp only [cc0__transpose_pack_body_eq_skeleton]
  unfold cc0__transpose_pack_body_skel
  sl_exec
  sl_step
  isplitl [H0]; · iexact H0
  iexists _
  isplitr [H1]
  rotate_left
  · iexact H1
  ipureintro
  exact packBlocks_done (c := c) M0 f0 M1 f1

end Cert.Proof.Gather

end
-- ==== Proof.PackRegion.lean ====
/- The packing call over its grid: the body's obligation at each step, and the array of packed words. -/
module

public import proofs.«01_k».proof.Proof.Pack
public import proofs.«01_k».proof.Proof.Gen.Kernel.Launch
public import proofs.«01_k».proof.Proof.Gen.Kernel.Points
public import Idealize.ShloMosaic.Lib.Pipeline.ValueKit
public import Idealize.ShloMosaic.Lib.Tactic

@[expose] public section

noncomputable section

namespace Cert.Proof.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [BitOps F] [∀ e, Nonempty (Elt F e)]

local notation "𝕄" => MT nD τ sig Unit (Elt F) ℕ (Pipeline.UD sig nD τ) ℕ
local notation "𝒱₀" => Variants.none

omit [BitOps F] [∀ e, Nonempty (Elt F e)] in
/-- Owning a whole memref at contents is owning its buffer at something that reads as them. -/
theorem owns_isWhole {c : Dev nD} {sp : Space} {S : Shape} {e : EltTy} {M : Memref sig .tc sp S e} (h : M.IsWhole)
    (X : S.Idx → Elt F e) :
    (owns (c : Thread nD τ) M fullShare X : sProp 𝕄)
      = iprop(∃ f, ⌜M.view.read (Elt F) f = X⌝ ∗ (M.view.loc (c : Thread nD τ) ↦{fullShare} f)) := by
  unfold owns
  rw [h.set_eq_univ]

/-- The `x` window takes all rows at every point. -/
theorem index0_0_row (t : Fin cfg0.N) : win0_0.index t 0 = 0 := by revert t; decide +kernel
/-- The packed window takes all columns at every point. -/
theorem index0_1_col (t : Fin cfg0.N) : win0_1.index t 1 = 0 := by revert t; decide +kernel
/-- The packed window's rows move with the `x` window's columns. -/
theorem index0_same (t : Fin cfg0.N) : win0_0.index t 1 = win0_1.index t 0 := by revert t; decide +kernel

/-- Row `r` of the packed block at `t` comes from column `r` of the `x` block at `t`. -/
theorem index0_col (t : Fin cfg0.N) (y : S256x8192.Idx) {k : S16384x256.Idx} (hk : k 1 = y 0) :
    (((cfg0.win 0).blk t).view.emb k 1).val = (((cfg0.win 1).blk t).view.emb y 0).val := by
  blk_simp
  show win0_0.index t 1 * 256 + (k 1).val = win0_1.index t 0 * 256 + (y 0).val
  rw [index0_same, hk]

omit [BitOps F] [∀ e, Nonempty (Elt F e)] in
/-- The staged block of `x`, owned, is its buffer held at something that reads as it. -/
theorem own0_0 (c : Dev nD) (t : Fin cfg0.N) (X : S16384x256.Idx → Elt F .f32) :
    (owns (c : Thread nD τ) ((cfg0.win 0).stage (cfg0.slots t 0)) fullShare X : sProp 𝕄)
      = iprop(∃ f, ⌜((cfg0.win 0).stage (cfg0.slots t 0)).view.read (Elt F) f = X⌝
          ∗ (((cfg0.win 0).stage (cfg0.slots t 0)).view.loc (c : Thread nD τ) ↦{fullShare} f)) :=
  owns_isWhole (hstage0_0 ((cfg0.slots t 0).cast nbuf0_0)) X

omit [BitOps F] [∀ e, Nonempty (Elt F e)] in
/-- The block of packed words, owned, is its buffer held at something that reads as it. -/
theorem own0_1 (c : Dev nD) (t : Fin cfg0.N) (X : S256x8192.Idx → Elt F .i32) :
    (owns (c : Thread nD τ) ((cfg0.win 1).stage (cfg0.slots t 1)) fullShare X : sProp 𝕄)
      = iprop(∃ f, ⌜((cfg0.win 1).stage (cfg0.slots t 1)).view.read (Elt F) f = X⌝
          ∗ (((cfg0.win 1).stage (cfg0.slots t 1)).view.loc (c : Thread nD τ) ↦{fullShare} f)) :=
  owns_isWhole (hstage0_1 ((cfg0.slots t 1).cast nbuf0_1)) X

variable (V : (c : Dev nD) → (b : Ref sig .tc) → Buf (Elt F) ((c : Thread nD τ).loc b))

/-- The block of `x` staged for grid point `t` of the packing region. -/
abbrev xStage (c : Dev nD) (t : Fin cfg0.N) : (cfg0.win 0).block.Idx → Elt F (cfg0.win 0).elt :=
  ((cfg0.win 0).blk t).view.read (Elt F) (V c main_arg0)

/-- The proof data of the packing region: its arrays as entered, and at every point the staged block as fetched and
    the result block holding the packed words of it. -/
def dat0 (c : Dev nD) : Dat τ (Elt F) Unit ℕ (Pipeline.UD sig nD τ) ℕ cfg0 c where
  A w := V c (Pipeline.arrRef spec0 w)
  after w t := match w with
    | ⟨0, _⟩ => xStage V c t
    | ⟨1, _⟩ => packOf (xStage V c t)
  Φ _ := Pipeline.scopedRest (Ix := Unit) (Name := ℕ) (U := Pipeline.UD sig nD τ) (Lvl := ℕ) (Val := Elt F) spec0 c
  q _ := fullShare
  owed _ := 0

/-- When the body runs the first window's buffer holds the block of `x`. -/
theorem before0_in (c : Dev nD) (t : Fin cfg0.N) (d : (cfg0.win 0).block.Idx → Elt F (cfg0.win 0).elt) :
    (dat0 V c).before 0 t d = xStage V c t := by
  rw [Dat.before, if_pos (fetch0_0 t)]; rfl

/-- The packing body meets its proof data at every grid point. -/
theorem body0 (c : Dev nD) : BodyObligation (dat0 V c) (defs₀ (F := F)) 𝒱₀ () Set.univ := fun t => by
  rw [bigSep_W0, bigSep_W0]
  rw [show (dat0 V c).Φ t.castSucc = (dat0 V c).Φ t.succ from rfl,
    show (dat0 V c).owesAt () t.succ = (dat0 V c).owesAt () t.castSucc from rfl]
  iintro ⟨HΦ, Howes, ⟨%d0, H0⟩, ⟨%d1, H1⟩⟩
  ihave H0 := (Entails.of_eq (own0_0 c t _)) $$ H0
  ihave H1 := (Entails.of_eq (own0_1 c t _)) $$ H1
  icases H0 with ⟨%f0, %hf0, H0⟩
  icases H1 with ⟨%f1, -, H1⟩
  rw [before0_in] at hf0
  iapply (wp_wand _ _ _) $$ [H0 H1] [HΦ Howes]
  · iapply (pack_body c (grid0.coords t) _ (hstage0_0 ((cfg0.slots t 0).cast nbuf0_0)) _ (hstage0_1 ((cfg0.slots t 1).cast nbuf0_1)) f0 f1)
    isplitl [H0]; · iexact H0
    iexact H1
  iintro %u ⟨H0, ⟨%f', %hf', H1⟩⟩
  isplitl [HΦ]; · iexact HΦ
  isplitl [Howes]; · iexact Howes
  isplitl [H0]
  · iapply (Entails.of_eq (own0_0 c t _).symm)
    iexists _; isplitr; swap; (· iexact H0); ipureintro; exact hf0
  iapply (Entails.of_eq (own0_1 c t _).symm)
  iexists _; isplitr; swap; (· iexact H1); ipureintro
  exact hf'.trans (congrArg packOf hf0)

/-- The array of packed words as a function of `x`. -/
def packed (X : S16384x4096.Idx → Elt F .f32) (j : S4096x8192.Idx) : Elt F .i32 :=
  pack2 (X (ix2 (⟨(j 1).val, Nat.lt_of_lt_of_le (j 1).isLt (by decide)⟩ : Fin 16384) (j 0)))
    (X (ix2 (⟨8192 + (j 1).val, by have : (j 1).val < 8192 := (j 1).isLt; omega⟩ : Fin 16384) (j 0)))

/-- After the packing region its result array holds the packed words of `x`. -/
theorem arr0 (c : Dev nD) : (dat0 V c).arrAt 1 cfg0.N = (packed (V c main_arg0) : S4096x8192.Idx → Elt F .i32) := by
  refine (dat0 V c).arrAt_eq_of_covers 1 _ (by decide +kernel) fun t hf y => ?_
  show packOf (xStage V c t) y = packed (V c main_arg0) (((cfg0.win 1).blk t).view.emb y)
  unfold packOf packed
  show pack2 (V c main_arg0 (((cfg0.win 0).blk t).view.emb _)) (V c main_arg0 (((cfg0.win 0).blk t).view.emb _)) = _
  refine congrArg₂ pack2 (congrArg (V c main_arg0) ?_) (congrArg (V c main_arg0) ?_) <;>
    (funext a; refine Fin.cases ?_ (Fin.cases ?_ fun a => a.elim0) a) <;> refine Fin.ext ?_
  · blk_simp
    show win0_0.index t 0 * 16384 + (y 1).val = win0_1.index t 1 * 8192 + (y 1).val
    rw [index0_0_row, index0_1_col]
  · exact index0_col t y rfl
  · blk_simp
    show win0_0.index t 0 * 16384 + (8192 + (y 1).val) = 8192 + (win0_1.index t 1 * 8192 + (y 1).val)
    rw [index0_0_row, index0_1_col]; omega
  · exact index0_col t y rfl

end Cert.Proof.Gather

end
-- ==== Proof.GatherRegion.lean ====
/- The gathering call over its grid: the invariant between steps, the body's obligation at each step, and the result array. -/
module

public import proofs.«01_k».proof.Proof.PackRegion
public import proofs.«01_k».proof.Proof.Gen.Kernel.Launch
public import proofs.«01_k».proof.Proof.Gen.Kernel.Points
public import Idealize.ShloMosaic.Lib.Pipeline.ValueKit
public import Idealize.ShloMosaic.Lib.Tactic

@[expose] public section

noncomputable section

namespace Cert.Proof.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [BitOps F] [∀ e, Nonempty (Elt F e)]

local notation "𝕄" => MT nD τ sig Unit (Elt F) ℕ (Pipeline.UD sig nD τ) ℕ
local notation "𝒱₀" => Variants.none

/-- The step a grid point stands at. -/
theorem coords1 (t : Fin cfg1.N) : ((grid1.coords t) 0).val = t.val := by revert t; decide +kernel

/-- The branches taken at the first step. -/
theorem cond_first : ∀ i : grid1.Coords, (i 0).val = 0 →
    k1_cond1 i = 1#1 ∧ k1_cond2 i = 1#1 ∧ k1_cond3 i = 1#1 ∧ ¬ k1_cond4 i = 1#1 ∧ k1_cond5 i = 1#1 ∧ ¬ k1_cond6 i = 1#1 := by decide
/-- The branches taken at a later even step. -/
theorem cond_even : ∀ i : grid1.Coords, (i 0).val ≠ 0 → (i 0).val % 2 = 0 →
    ¬ k1_cond1 i = 1#1 ∧ k1_cond2 i = 1#1 ∧ k1_cond3 i = 1#1 ∧ ¬ k1_cond4 i = 1#1 ∧ k1_cond5 i = 1#1 ∧ ¬ k1_cond6 i = 1#1 := by decide
/-- The branches taken at an odd step that is not the last. -/
theorem cond_odd : ∀ i : grid1.Coords, (i 0).val < 15 → (i 0).val % 2 = 1 →
    ¬ k1_cond1 i = 1#1 ∧ k1_cond2 i = 1#1 ∧ ¬ k1_cond3 i = 1#1 ∧ k1_cond4 i = 1#1 ∧ ¬ k1_cond5 i = 1#1 ∧ k1_cond6 i = 1#1 := by decide
/-- The branches taken at the last step. -/
theorem cond_last : ∀ i : grid1.Coords, (i 0).val = 15 →
    ¬ k1_cond1 i = 1#1 ∧ ¬ k1_cond2 i = 1#1 ∧ ¬ k1_cond3 i = 1#1 ∧ k1_cond4 i = 1#1 ∧ ¬ k1_cond5 i = 1#1 ∧ k1_cond6 i = 1#1 := by decide

omit [BitOps F] [∀ e, Nonempty (Elt F e)] in
/-- The staged row numbers, owned, are their buffer held at something that reads as them. -/
theorem own1_0 (c : Dev nD) (t : Fin cfg1.N) (X : S1x4096.Idx → Elt F .i32) :
    (owns (c : Thread nD τ) ((cfg1.win 0).stage (cfg1.slots t 0)) fullShare X : sProp 𝕄)
      = iprop(∃ f, ⌜((cfg1.win 0).stage (cfg1.slots t 0)).view.read (Elt F) f = X⌝
          ∗ (((cfg1.win 0).stage (cfg1.slots t 0)).view.loc (c : Thread nD τ) ↦{fullShare} f)) :=
  owns_isWhole (hstage1_0 ((cfg1.slots t 0).cast nbuf1_0)) X

omit [BitOps F] [∀ e, Nonempty (Elt F e)] in
/-- The result block, owned, is its buffer held at something that reads as it. -/
theorem own1_1 (c : Dev nD) (t : Fin cfg1.N) (X : S16384x256.Idx → Elt F .f32) :
    (owns (c : Thread nD τ) ((cfg1.win 1).stage (cfg1.slots t 1)) fullShare X : sProp 𝕄)
      = iprop(∃ f, ⌜((cfg1.win 1).stage (cfg1.slots t 1)).view.read (Elt F) f = X⌝
          ∗ (((cfg1.win 1).stage (cfg1.slots t 1)).view.loc (c : Thread nD τ) ↦{fullShare} f)) :=
  owns_isWhole (hstage1_1 ((cfg1.slots t 1).cast nbuf1_1)) X

variable (V : (c : Dev nD) → (b : Ref sig .tc) → Buf (Elt F) ((c : Thread nD τ).loc b))

/-- Row number `j` as the gathering region finds it. -/
def permAt (c : Dev nD) (j : Fin 4096) : BitVec 32 := (V c main_v0 : S1x4096.Idx → BitVec 32) (ix2 0 j)

/-- The rows step `n` gathers. -/
def rowsV (c : Dev nD) (n : ℕ) (t : Fin 256) : Fin 4096 := rowIx (permAt V c ⟨(256 * n + t.val) % 4096, Nat.mod_lt _ (by decide)⟩)

/-- The packed words as the gathering region finds them. -/
abbrev yV (c : Dev nD) : Buf (Elt F) (Ym.view.loc (c : Thread nD τ)) := V c main_v1

/-- The rows of packed words step `n` gathers. -/
def gatV (c : Dev nD) (n : ℕ) : S256x8192.Idx → Elt F .i32 := gat c (rowsV V c n) (yV V c)

/-- The row numbers as staged for point `t`. -/
abbrev pStage (c : Dev nD) (t : Fin cfg1.N) : (cfg1.win 0).block.Idx → Elt F (cfg1.win 0).elt :=
  ((cfg1.win 0).blk t).view.read (Elt F) (V c main_v0)

abbrev B0 : Memref sig .tc .vmem S256x8192 .i32 := Memref.whole cc1_scratch0
abbrev B1 : Memref sig .tc .vmem S256x8192 .i32 := Memref.whole cc1_scratch1
abbrev qs (s : Fin 2) : PosShare TreeShare := Transfers.shareTok fullShare 2 s

/-- The two slots before step `n`: at both ends idle, else the slot of `n`'s parity in flight with step `n`'s rows. -/
def slotsAt (c : Dev nD) (n : ℕ) : sProp 𝕄 :=
  if n = 0 ∨ 16 ≤ n then
    iprop((∃ f, free c B0 cc1_scratch2.sem (qs 0) (yV V c) f) ∗ ∃ f, free c B1 cc1_scratch3.sem (qs 1) (yV V c) f)
  else if n % 2 = 0 then
    iprop(draining c B0 cc1_scratch2.sem (qs 0) (rowsV V c n) (yV V c) (gatV V c n) 0 ∗ ∃ f, free c B1 cc1_scratch3.sem (qs 1) (yV V c) f)
  else
    iprop(draining c B1 cc1_scratch3.sem (qs 1) (rowsV V c n) (yV V c) (gatV V c n) 0 ∗ ∃ f, free c B0 cc1_scratch2.sem (qs 0) (yV V c) f)

/-- The staging buffers of the other region, held at something, and what is left of the packed words. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ ysh c (yV V c) (Transfers.shareDrop fullShare 2))

/-- The proof data of the gathering region: its arrays as entered; at every point the row numbers as staged and the
    result block read off the step's gathered rows. -/
def dat1 (c : Dev nD) : Dat τ (Elt F) Unit ℕ (Pipeline.UD sig nD τ) ℕ cfg1 c where
  A w := V c (Pipeline.arrRef spec1 w)
  after w t := match w with
    | ⟨0, _⟩ => pStage V c t
    | ⟨1, _⟩ => outOf (gatV V c t.val)
  Φ t := iprop(rest1 V c ∗ slotsAt V c t.val)
  q _ := fullShare
  owed _ := 0

/-- At every point the first window's buffer holds the row numbers. -/
theorem before1_in (c : Dev nD) (t : Fin cfg1.N) (d : (cfg1.win 0).block.Idx → Elt F (cfg1.win 0).elt) :
    (dat1 V c).before 0 t d = pStage V c t :=
  (dat1 V c).before_in_eq_fetched 0 rfl (fun _ => rfl) (fun _ _ _ => rfl) (fun _ => rfl) t d

/-- The row numbers' window takes all of them at every point. -/
theorem index1_0 (t : Fin cfg1.N) (a) : win1_0.index t a = 0 := by revert t a; decide +kernel

/-- The staged row numbers are the row numbers. -/
theorem pStage_apply (c : Dev nD) (t : Fin cfg1.N) (j : Fin 4096) : pStage V c t (ix2 0 j) = permAt V c j := by
  show (V c main_v0 : S1x4096.Idx → BitVec 32) (((cfg1.win 0).blk t).view.emb (ix2 0 j)) = _
  refine congrArg (V c main_v0 : S1x4096.Idx → BitVec 32) ?_
  funext a
  refine Fin.cases ?_ (Fin.cases ?_ fun a => a.elim0) a <;> refine Fin.ext ?_
  · blk_simp
    rw [index1_0]; rfl
  · blk_simp
    show win1_0.index t 1 * 4096 + j.val = j.val
    rw [index1_0]; omega

/-- The words the body reads from its staged row numbers are the row numbers. -/
theorem word_eq (c : Dev nD) (t : Fin cfg1.N) (M : Memref sig .tc .smem S1x4096 .i32) (p : Buf (Elt F) (M.view.loc (c : Thread nD τ)))
    (hp : M.view.read (Elt F) p = pStage V c t) (j : Fin 4096) : word c M p j = permAt V c j :=
  (congrFun hp _).trans (pStage_apply V c t j)

/-- So the rows the body gathers are the step's rows. -/
theorem rowsAt_eq (c : Dev nD) (t : Fin cfg1.N) (M : Memref sig .tc .smem S1x4096 .i32) (p : Buf (Elt F) (M.view.loc (c : Thread nD τ)))
    (hp : M.view.read (Elt F) p = pStage V c t) : rowsAt c M p = rowsV V c := by
  funext n k
  exact congrArg rowIx (word_eq V c t M p hp _)

/-- The result block is stored at every step. -/
theorem live1 : ∀ i : grid1.Coords, idle1 1 i = false := by decide

/-- Between the ends the slots are idle. -/
theorem slotsAt_idle (c : Dev nD) (n : ℕ) (h : n = 0 ∨ 16 ≤ n) : slotsAt V c n
    = iprop((∃ f, free c B0 cc1_scratch2.sem (qs 0) (yV V c) f) ∗ ∃ f, free c B1 cc1_scratch3.sem (qs 1) (yV V c) f) := if_pos h

/-- Before an even step the first slot is in flight. -/
theorem slotsAt_even (c : Dev nD) (n : ℕ) (h : n ≠ 0) (h' : n < 16) (he : n % 2 = 0) : slotsAt V c n
    = iprop(draining c B0 cc1_scratch2.sem (qs 0) (rowsV V c n) (yV V c) (gatV V c n) 0 ∗ ∃ f, free c B1 cc1_scratch3.sem (qs 1) (yV V c) f) :=
  (if_neg (by omega)).trans (if_pos he)

/-- Before an odd step the second slot is in flight. -/
theorem slotsAt_odd (c : Dev nD) (n : ℕ) (h' : n < 16) (he : n % 2 = 1) : slotsAt V c n
    = iprop(draining c B1 cc1_scratch3.sem (qs 1) (rowsV V c n) (yV V c) (gatV V c n) 0 ∗ ∃ f, free c B0 cc1_scratch2.sem (qs 0) (yV V c) f) :=
  (if_neg (by omega)).trans (if_neg (by omega))

variable (hV : ∀ (c : Dev nD) (j : Fin 4096), (permAt V c j).toNat < 4096)

include hV in
/-- One step of the gathering body, from the slots before it to the slots after it. -/
theorem step1 (c : Dev nD) (t : Fin cfg1.N) (M : Memref sig .tc .smem S1x4096 .i32) (hM : M.IsWhole)
    (O : Memref sig .tc .vmem S16384x256 .f32) (hO : O.IsWhole) (p : Buf (Elt F) (M.view.loc (c : Thread nD τ)))
    (hp : M.view.read (Elt F) p = pStage V c t) (o : Buf (Elt F) (O.view.loc (c : Thread nD τ))) :
    iprop(m1At c M p ∗ slotsAt V c t.val ∗ (∃ W, owes (c : Thread nD τ) 0 W) ∗ (O.view.loc (c : Thread nD τ) ↦{fullShare} o))
      ⊢ wp frame (wpE defs₀ 𝒱₀ (c : Thread nD τ) none) Set.univ
        (cc1__gather_t_body (F := F) (grid1.coords t) M hM Ym (Memref.isWhole_whole _) O hO B0 (Memref.isWhole_whole _) B1
          (Memref.isWhole_whole _) cc1_scratch2 cc1_scratch3)
        (fun _ => iprop(m1At c M p ∗ slotsAt V c (t.val + 1) ∗ (∃ W, owes (c : Thread nD τ) 0 W)
          ∗ (∃ o', ⌜O.view.read (Elt F) o' = outOf (gatV V c t.val)⌝ ∗ (O.view.loc (c : Thread nD τ) ↦{fullShare} o')))) := by
  have hw : ∀ j, (word c M p j).toNat < 4096 := fun j => by rw [word_eq V c t M p hp]; exact hV c j
  have hr := rowsAt_eq V c t M p hp
  have hi := coords1 t
  have ht : t.val < 16 := t.isLt
  have hG : ∀ n, (B0.view.read (Elt F) (gatV V c n) : S256x8192.Idx → Elt F .i32) = gat c (rowsAt c M p n) (yV V c) := fun n => by rw [hr]; rfl
  by_cases h0 : t.val = 0
  · obtain ⟨h1, h2, h3, h4, h5, h6⟩ := cond_first (grid1.coords t) (hi.trans h0)
    rw [slotsAt_idle V c t.val (Or.inl h0), slotsAt_odd V c (t.val + 1) (by omega) (by omega)]
    iintro ⟨HM, ⟨⟨%f0, HA⟩, ⟨%f1, HB⟩⟩, HW, HO⟩
    iapply (wp_wand _ _ _) $$ [HM HA HB HW HO] []
    · iapply (body_first c M hM O hO B0 B1 (Memref.isWhole_whole _) (Memref.isWhole_whole _) cc1_scratch2 cc1_scratch3 p (yV V c) (grid1.coords t)
        h1 h2 h3 h4 h5 h6 hw (qs 0) (qs 1) (gatV V c 0) f0 (gatV V c (((grid1.coords t) 0).val + 1)) f1 (hG _) (hG _) o)
      isplitl [HM]; · iexact HM
      isplitl [HA]; · iexact HA
      isplitl [HB]; · iexact HB
      isplitl [HW]; · iexact HW
      iexact HO
    rw [hr, hi, h0]
    iintro %u ⟨HM, HA, HB, HW, HO⟩
    isplitl [HM]; · iexact HM
    isplitl [HA HB]
    · isplitl [HB]; · iexact HB
      iexists _; iexact HA
    isplitl [HW]; · iexact HW
    iexact HO
  by_cases he : t.val % 2 = 0
  · obtain ⟨h1, h2, h3, h4, h5, h6⟩ := cond_even (grid1.coords t) (by rw [hi]; exact h0) (by rw [hi]; exact he)
    rw [slotsAt_even V c t.val h0 ht he, slotsAt_odd V c (t.val + 1) (by omega) (by omega)]
    iintro ⟨HM, ⟨HA, ⟨%f1, HB⟩⟩, HW, HO⟩
    have hb := body_even c M hM O hO B0 B1 (Memref.isWhole_whole _) (Memref.isWhole_whole _) cc1_scratch2 cc1_scratch3 p (yV V c) (grid1.coords t)
        h1 h2 h3 h4 h5 h6 hw (qs 0) (qs 1) (gatV V c t.val) (gatV V c 0) (gatV V c (((grid1.coords t) 0).val + 1)) f1 (hG _) o
    rw [hr, hi] at hb
    iapply (wp_wand _ _ _) $$ [HM HA HB HW HO] []
    · iapply hb
      isplitl [HM]; · iexact HM
      isplitl [HA]; · iexact HA
      isplitl [HB]; · iexact HB
      isplitl [HW]; · iexact HW
      iexact HO
    iintro %u ⟨HM, HA, HB, HW, HO⟩
    isplitl [HM]; · iexact HM
    isplitl [HA HB]
    · isplitl [HB]; · iexact HB
      iexists _; iexact HA
    isplitl [HW]; · iexact HW
    iexact HO
  by_cases hl : t.val = 15
  · obtain ⟨h1, h2, h3, h4, h5, h6⟩ := cond_last (grid1.coords t) (hi.trans hl)
    rw [slotsAt_odd V c t.val ht (by omega), slotsAt_idle V c (t.val + 1) (by omega)]
    iintro ⟨HM, ⟨HA, ⟨%f1, HB⟩⟩, HW, HO⟩
    have hb := body_last c M hM O hO B0 B1 (Memref.isWhole_whole _) (Memref.isWhole_whole _) cc1_scratch2 cc1_scratch3 p (yV V c) (grid1.coords t)
        h1 h2 h3 h4 h5 h6 hw (qs 0) (qs 1) (gatV V c 0) f1 (gatV V c t.val) (gatV V c 0) o
    rw [hr, hi] at hb
    iapply (wp_wand _ _ _) $$ [HM HA HB HW HO] []
    · iapply hb
      isplitl [HM]; · iexact HM
      isplitl [HA]; · iexact HA
      isplitl [HB]; · iexact HB
      isplitl [HW]; · iexact HW
      iexact HO
    iintro %u ⟨HM, HA, HB, HW, HO⟩
    isplitl [HM]; · iexact HM
    isplitl [HA HB]
    · isplitl [HB]; · iexists _; iexact HB
      iexists _; iexact HA
    isplitl [HW]; · iexact HW
    iexact HO
  · obtain ⟨h1, h2, h3, h4, h5, h6⟩ := cond_odd (grid1.coords t) (by omega) (by omega)
    rw [slotsAt_odd V c t.val ht (by omega), slotsAt_even V c (t.val + 1) (by omega) (by omega) (by omega)]
    iintro ⟨HM, ⟨HA, ⟨%f1, HB⟩⟩, HW, HO⟩
    have hb := body_odd c M hM O hO B0 B1 (Memref.isWhole_whole _) (Memref.isWhole_whole _) cc1_scratch2 cc1_scratch3 p (yV V c) (grid1.coords t)
        h1 h2 h3 h4 h5 h6 hw (qs 0) (qs 1) (gatV V c (((grid1.coords t) 0).val + 1)) f1 (gatV V c t.val) (gatV V c 0) (hG _) o
    rw [hr, hi] at hb
    iapply (wp_wand _ _ _) $$ [HM HA HB HW HO] []
    · iapply hb
      isplitl [HM]; · iexact HM
      isplitl [HA]; · iexact HA
      isplitl [HB]; · iexact HB
      isplitl [HW]; · iexact HW
      iexact HO
    iintro %u ⟨HM, HA, HB, HW, HO⟩
    isplitl [HM]; · iexact HM
    isplitl [HA HB]
    · isplitl [HB]; · iexact HB
      iexists _; iexact HA
    isplitl [HW]; · iexact HW
    iexact HO

include hV in
/-- The gathering body meets its proof data at every grid point. -/
theorem body1 (c : Dev nD) : BodyObligation (dat1 V c) (defs₀ (F := F)) 𝒱₀ () Set.univ := fun t => by
  rw [bigSep_W1, bigSep_W1]
  rw [show (dat1 V c).Φ t.castSucc = iprop(rest1 V c ∗ slotsAt V c t.val) from rfl,
    show (dat1 V c).Φ t.succ = iprop(rest1 V c ∗ slotsAt V c (t.val + 1)) from rfl,
    show (dat1 V c).owesAt () t.succ = (dat1 V c).owesAt () t.castSucc from rfl]
  iintro ⟨⟨HR, HS⟩, Howes, ⟨%d0, H0⟩, ⟨%d1, H1⟩⟩
  ihave H0 := (Entails.of_eq (own1_0 c t _)) $$ H0
  ihave H1 := (Entails.of_eq (own1_1 c t _)) $$ H1
  icases H0 with ⟨%f0, %hf0, H0⟩
  icases H1 with ⟨%f1, -, H1⟩
  rw [before1_in] at hf0
  unfold Pipeline.Dat.owesAt Pipeline.owesWithin
  icases Howes with ⟨%W, -, Howes⟩
  iapply (wp_wand _ _ _) $$ [H0 H1 HS Howes] [HR]
  · iapply (step1 V hV c t _ (hstage1_0 ((cfg1.slots t 0).cast nbuf1_0)) _ (hstage1_1 ((cfg1.slots t 1).cast nbuf1_1)) f0 hf0 f1)
    isplitl [H0]; · iexact H0
    isplitl [HS]; · iexact HS
    isplitl [Howes]; · iexists W; iexact Howes
    iexact H1
  iintro %u ⟨H0, HS, ⟨%W', Howes⟩, ⟨%f', %hf', H1⟩⟩
  isplitl [HR HS]
  · isplitl [HR]; · iexact HR
    iexact HS
  isplitl [Howes]
  · iexists W'; isplitr; · ipureintro; exact fun _ _ => Or.inl trivial
    iexact Howes
  isplitl [H0]
  · iapply (Entails.of_eq (own1_0 c t _).symm)
    iexists _; isplitr; swap; (· iexact H0); ipureintro; exact hf0
  ihave H := (Entails.of_eq (own1_1 c t (outOf (gatV V c t.val))).symm) $$ [H1]
  · iexists _; isplitr; swap; (· iexact H1); ipureintro
    exact hf'
  have hidle : cfg1.idle 1 (cfg1.grid.coords t) = false := live1 _
  have hafter : (dat1 V c).after 1 t = outOf (gatV V c t.val) := rfl
  rw [hafter, hidle]
  iexact H

/-- The result array as a function of the packed words and the row numbers. -/
def gathered (Y : S4096x8192.Idx → Elt F .i32) (P : Fin 4096 → BitVec 32) (x : S16384x4096.Idx) : Elt F .f32 :=
  half ((x 0).val / 8192) (Y (ix2 (rowIx (P (x 1))) ⟨(x 0).val % 8192, Nat.mod_lt _ (by decide)⟩))

/-- The result window takes all rows at every point. -/
theorem index1_1_row (t : Fin cfg1.N) : win1_1.index t 0 = 0 := by revert t; decide +kernel
/-- The result window's columns follow the step. -/
theorem index1_1_col (t : Fin cfg1.N) : win1_1.index t 1 = t.val := by revert t; decide +kernel

/-- After the gathering region its result array holds the rows the row numbers name, unpacked. -/
theorem arr1 (c : Dev nD) : (dat1 V c).arrAt 1 cfg1.N = (gathered (yV V c) (permAt V c) : S16384x4096.Idx → Elt F .f32) := by
  refine (dat1 V c).arrAt_eq_of_covers 1 _ (by decide +kernel) fun t hf y => ?_
  show outOf (gatV V c t.val) y = gathered (yV V c) (permAt V c) (((cfg1.win 1).blk t).view.emb y)
  have hy : (y 1).val < 256 := (y 1).isLt
  have ht : t.val < 16 := t.isLt
  have hx : ((cfg1.win 1).blk t).view.emb y
      = ix2 (⟨(y 0).val, (y 0).isLt⟩ : Fin 16384) (⟨256 * t.val + (y 1).val, by omega⟩ : Fin 4096) := by
    funext a
    refine Fin.cases ?_ (Fin.cases ?_ fun a => a.elim0) a <;> refine Fin.ext ?_
    · blk_simp
      show win1_1.index t 0 * 16384 + (y 0).val = (y 0).val
      rw [index1_1_row]; omega
    · blk_simp
      show win1_1.index t 1 * 256 + (y 1).val = 256 * t.val + (y 1).val
      rw [index1_1_col]; omega
  refine Eq.trans ?_ (congrArg (gathered (yV V c) (permAt V c)) hx).symm
  have er : rowsV V c t.val (y 1) = rowIx (permAt V c ⟨256 * t.val + (y 1).val, by omega⟩) :=
    congrArg (fun j => rowIx (permAt V c j)) (Fin.ext (Nat.mod_eq_of_lt (by show 256 * t.val + (y 1).val < 4096; omega)))
  exact congrArg (fun r => half ((y 0).val / 8192) (yV V c (ix2 r ⟨(y 0).val % 8192, Nat.mod_lt _ (by decide)⟩))) er

end Cert.Proof.Gather

end
-- ==== Proof.Records.lean ====
/- The two calls as segments of the program: what each is entered from and what it leaves. -/
module

public import proofs.«01_k».proof.Proof.GatherRegion
public import proofs.«01_k».proof.Proof.Gen.Kernel.Launch
public import proofs.«01_k».proof.Proof.Gen.Kernel.Points
public import Idealize.ShloMosaic.Lib.Pipeline.RegionsLoop
public import Idealize.ShloMosaic.Lib.Tactic

@[expose] public section

noncomputable section

namespace Cert.Proof.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [BitOps F] [∀ e, Nonempty (Elt F e)]

local notation "𝕄" => MT nD τ sig Unit (Elt F) ℕ (Pipeline.UD sig nD τ) ℕ
local notation "𝒱₀" => Variants.none

/-- No level is assigned: no core owes another anything. -/
abbrev noL : GSem nD τ sig → Finset Unit := fun _ => ∅
abbrev noLv : GSem nD τ sig → Unit → ℕ := fun _ _ => 0

/-- What rides beside the buffers between the items: what the core owes, which is nothing. -/
abbrev owesNone (c : Dev nD) : sProp 𝕄 := iprop(∃ W, owes (c : Thread nD τ) (0 : CellTallies nD τ sig Unit) W)

variable (Va Vb Vc : (c : Dev nD) → (b : Ref sig .tc) → Buf (Elt F) ((c : Thread nD τ).loc b))

/-- The proof data of both regions, each at the contents it is entered from. -/
def datsOf : (p : Fin 2) → (c : Dev nD) → Dat τ (Elt F) Unit ℕ (Pipeline.UD sig nD τ) ℕ (cfgs p) c
  | ⟨0, _⟩ => fun c => dat0 Va c
  | ⟨1, _⟩ => fun c => dat1 Vb c

set_option backward.isDefEq.respectTransparency.types false in
/-- The packing region: entered from the unscoped buffers at `Va`, left with them at `Vb`, which differs by the packed words. -/
def packRegion (hout : ∀ c, Vb c main_v1 = (packed (Va c main_arg0) : S4096x8192.Idx → Elt F .i32))
    (hne : ∀ c (b : Ref sig .tc), b ≠ main_v1 → Vb c b = Va c b) :
    Pipeline.RegionSeg (pcfgs (F := F)) adm (datsOf Va Vb) () defs₀ 𝒱₀ noL noLv 0 where
  win := launch0.win.to₀
  block_pos := launch0.block_pos
  stage_whole := launch0.stage_whole
  K := PEmpty
  osem k := k.elim
  ho := Pipeline.OwnSemFacts.none _
  hbody c := (body0 Va c).loose
  hwaits := Pipeline.hwaits_of_owed_zero _ _ _ _ noL noLv 0 fun _ _ => rfl
  pre c := iprop(unscopedBufs c (Va c) ∗ owesNone c)
  post c := iprop(unscopedBufs c (Vb c) ∗ owesNone c)
  X _ := BI.emp
  Y _ := BI.emp
  Z c := Pipeline.unscopedRest (Ix := Unit) (Name := ℕ) (U := Pipeline.UD sig nD τ) (Lvl := ℕ) spec0 c (Va c)
  hentry c := by
    rw [Pipeline.ownSems0_none]
    have hsplit := Pipeline.arrays_of_unscopedBufs (p := 0) (pcfgs (F := F)) adm (datsOf Va Vb) launch0.win launch0.arr_whole c
      ((datsOf Va Vb 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (datsOf Va Vb 0 c).Φ 0 = Pipeline.scopedRest spec0 c from rfl]
    iintro ⟨-, -, Hr⟩; iexact Hr
  hout c := by
    rw [Pipeline.ownSems0_none, show (datsOf Va Vb 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (datsOf Va Vb) ((datsOf Va Vb 0 c).share_full fun _ => rfl) (Va c) (Vb c)
      ((datsOf Va Vb 0 c).arrAt · cfg0.N)
      (fun w => by
        fin_cases w
        · exact ((datsOf Va Vb 0 c).arrAt_in 0 rfl _).trans (hne c main_arg0 (by decide)).symm
        · exact (arr0 Va c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The semaphores of the two slots. -/
abbrev slotSem : Fin 2 → SemLoc sig := ![.dma cc1_scratch2.sem, .dma cc1_scratch3.sem]

/-- They are the gathering kernel's own. -/
theorem slotSem_facts : Pipeline.OwnSemFacts spec1 slotSem := by decide

omit [BitOps F] [∀ e, Nonempty (Elt F e)] in
/-- The two semaphores at zero, listed. -/
theorem slotSem_zero (c : Dev nD) :
    (Pipeline.ownSems0 (Ix := Unit) (Name := ℕ) (U := Pipeline.UD sig nD τ) (Lvl := ℕ) (Val := Elt F) (τ := τ) slotSem c : sProp 𝕄)
      = iprop(semVal ((c : Thread nD τ), SemLoc.dma cc1_scratch2.sem) 0 ∗ semVal ((c : Thread nD τ), SemLoc.dma cc1_scratch3.sem) 0) :=
  Pipeline.ownSems0_eq_of_list c slotSem [0, 1] (by decide) (by decide)

/-- The unscoped buffers the gathering region does not touch. -/
abbrev aside1 (c : Dev nD) : sProp 𝕄 :=
  iprop((((c : Thread nD τ).loc main_arg0) ↦{fullShare} Vb c main_arg0) ∗ (((c : Thread nD τ).loc main_arg1) ↦{fullShare} Vb c main_arg1)
    ∗ (((c : Thread nD τ).loc main_arg2) ↦{fullShare} Vb c main_arg2) ∗ (((c : Thread nD τ).loc main_cst) ↦{fullShare} Vb c main_cst)
    ∗ (((c : Thread nD τ).loc main_v3) ↦{fullShare} Vb c main_v3))

omit [BitOps F] [∀ e, Nonempty (Elt F e)] in
/-- The packed words dealt out: a share for each slot, the rest aside. -/
theorem yshares (c : Dev nD) : (ysh c (yV Vb c) fullShare : sProp 𝕄)
    ⊢ iprop(ysh c (yV Vb c) (Transfers.shareDrop fullShare 2) ∗ ysh c (yV Vb c) (qs 0) ∗ ysh c (yV Vb c) (qs 1)) :=
  BI.Entails.trans (Transfers.pointsTo_toks_split fullShare 2)
    (BI.sep_mono (BI.Entails.refl _) (Entails.of_eq (bigSep_W0 fun i => ysh c (yV Vb c) (qs i))))

omit [BitOps F] [∀ e, Nonempty (Elt F e)] in
/-- The packed words taken back whole. -/
theorem yjoin (c : Dev nD) : iprop(ysh c (yV Vb c) (Transfers.shareDrop fullShare 2) ∗ ysh c (yV Vb c) (qs 0) ∗ ysh c (yV Vb c) (qs 1))
    ⊢ (ysh c (yV Vb c) fullShare : sProp 𝕄) :=
  BI.Entails.trans (BI.sep_mono (BI.Entails.refl _) (Entails.of_eq (bigSep_W0 fun i => ysh c (yV Vb c) (qs i)).symm))
    (Transfers.pointsTo_toks_join fullShare 2)

set_option backward.isDefEq.respectTransparency.types false in
/-- The gathering region: entered from the unscoped buffers at `Vb`, left with them at `Vc`, which differs by the result. -/
def gatherRegion (hV : ∀ (c : Dev nD) (j : Fin 4096), (permAt Vb c j).toNat < 4096)
    (hout : ∀ c, Vc c main_v2 = (gathered (yV Vb c) (permAt Vb c) : S16384x4096.Idx → Elt F .f32))
    (hne : ∀ c (b : Ref sig .tc), b ≠ main_v2 → Vc c b = Vb c b) :
    Pipeline.RegionSeg (pcfgs (F := F)) adm (datsOf Va Vb) () defs₀ 𝒱₀ noL noLv 1 where
  win := launch1.win.to₀
  block_pos := launch1.block_pos
  stage_whole := launch1.stage_whole
  K := Fin 2
  osem := slotSem
  ho := slotSem_facts
  hbody c := (body1 Vb hV c).loose
  hwaits := Pipeline.hwaits_of_owed_zero _ _ _ _ noL noLv 1 fun _ _ => rfl
  pre c := iprop(unscopedBufs c (Vb c) ∗ owesNone c)
  post c := iprop(unscopedBufs c (Vc c) ∗ owesNone c)
  X c := iprop(ysh c (yV Vb c) fullShare ∗ semVal ((c : Thread nD τ), SemLoc.dma cc1_scratch2.sem) 0
    ∗ semVal ((c : Thread nD τ), SemLoc.dma cc1_scratch3.sem) 0)
  Y c := ysh c (yV Vb c) fullShare
  Z c := aside1 Vb c
  hentry c := by
    rw [slotSem_zero]
    have hsplit := (Pipeline.arrays_of_unscopedBufs (p := 1) (pcfgs (F := F)) adm (datsOf Va Vb) launch1.win launch1.arr_whole c
      ((datsOf Va Vb 1 c).share_full fun _ => rfl) (Vb c) fun _ => rfl).trans (sep_mono .rfl (Entails.of_eq (unscopedRest1_eq c (Vb c))))
    iintro ⟨⟨Hub, HO⟩, Hs, -⟩
    ihave H := hsplit $$ Hub
    icases H with ⟨Ha, H0, H1, H2, Hy, Hc, H3⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hy Hs]
    · isplitl [Hy]; · iexact Hy
      iexact Hs
    isplitl [H0]; · iexact H0
    isplitl [H1]; · iexact H1
    isplitl [H2]; · iexact H2
    isplitl [Hc]; · iexact Hc
    iexact H3
  hin c := by
    rw [show (datsOf Va Vb 1 c).Φ 0 = iprop(rest1 Vb c ∗ slotsAt Vb c 0) from rfl, slotsAt_idle Vb c 0 (Or.inl rfl)]
    have hr := Entails.of_eq (scopedRest1_eq (Ix := Unit) (Val := Elt F) (Name := ℕ) (U := Pipeline.UD sig nD τ) (Lvl := ℕ) c)
    iintro ⟨⟨Hy, Hs0, Hs1⟩, -, Hr⟩
    ihave Hr := hr $$ Hr
    icases Hr with ⟨R0, R1, R2, R3, ⟨%f0, A0⟩, ⟨%f1, A1⟩⟩
    ihave Hy := (yshares Vb c) $$ Hy
    icases Hy with ⟨Hd, Y0, Y1⟩
    isplitl [R0 R1 R2 R3 Hd]
    · unfold rest1
      isplitl [R0]; · iexact R0
      isplitl [R1]; · iexact R1
      isplitl [R2]; · iexact R2
      isplitl [R3]; · iexact R3
      iexact Hd
    isplitl [Hs0 A0 Y0]
    · iexists f0; unfold free
      isplitl [Hs0]; · iexact Hs0
      isplitl [A0]; · iexact A0
      iexact Y0
    · iexists f1; unfold free
      isplitl [Hs1]; · iexact Hs1
      isplitl [A1]; · iexact A1
      iexact Y1
  hout c := by
    rw [slotSem_zero, show (datsOf Va Vb 1 c).Φ (Fin.last _) = iprop(rest1 Vb c ∗ slotsAt Vb c 16) from rfl, slotsAt_idle Vb c 16 (Or.inr le_rfl)]
    have hr := Entails.of_eq (scopedRest1_eq (Ix := Unit) (Val := Elt F) (Name := ℕ) (U := Pipeline.UD sig nD τ) (Lvl := ℕ) c).symm
    unfold rest1 free
    iintro ⟨⟨R0, R1, R2, R3, Hd⟩, ⟨%f0, Hs0, A0, Y0⟩, ⟨%f1, Hs1, A1, Y1⟩⟩
    isplitl [Hd Y0 Y1]
    · iapply (yjoin Vb c)
      isplitl [Hd]; · iexact Hd
      isplitl [Y0]; · iexact Y0
      iexact Y1
    isplitl [Hs0 Hs1]
    · isplitl [Hs0]; · iexact Hs0
      iexact Hs1
    iapply hr
    isplitl [R0]; · iexact R0
    isplitl [R1]; · iexact R1
    isplitl [R2]; · iexact R2
    isplitl [R3]; · iexact R3
    isplitl [A0]; · iexists f0; iexact A0
    iexists f1; iexact A1
  hexit c := by
    have hjoin := Pipeline.unscopedBufs_of_arrays (p := 1) (pcfgs (F := F)) adm (Ix := Unit) (Name := ℕ) (U := Pipeline.UD sig nD τ) (Lvl := ℕ)
      launch1.win launch1.arr_whole c (datsOf Va Vb) ((datsOf Va Vb 1 c).share_full fun _ => rfl) (Vb c) (Vc c)
      ((datsOf Va Vb 1 c).arrAt · cfg1.N)
      (fun w => by
        fin_cases w
        · exact ((datsOf Va Vb 1 c).arrAt_in 0 rfl _).trans (hne c main_v0 (by decide)).symm
        · exact (arr1 Vb c).trans (hout c).symm)
      (fun b hb => hne c b fun h => hb (h ▸ Finset.mem_image.mpr ⟨1, Finset.mem_univ _, rfl⟩))
    have hr := Entails.of_eq (unscopedRest1_eq (Ix := Unit) (Name := ℕ) (U := Pipeline.UD sig nD τ) (Lvl := ℕ) c (Vb c)).symm
    iintro ⟨Ha, HO, Hy, ⟨H0, H1, H2, Hc, H3⟩⟩
    imodintro
    isplitl [Ha H0 H1 H2 Hc H3 Hy]
    · iapply hjoin
      isplitl [Ha]; · iexact Ha
      iapply hr
      isplitl [H0]; · iexact H0
      isplitl [H1]; · iexact H1
      isplitl [H2]; · iexact H2
      isplitl [Hy]; · iexact Hy
      isplitl [Hc]; · iexact Hc
      iexact H3
    unfold Pipeline.Dat.owesAt Pipeline.owesWithin
    icases HO with ⟨%W, -, HO⟩; iexists W; iexact HO

end Cert.Proof.Gather

end
-- ==== Proof.Run.lean ====
/- The run of the whole program: the two calls' records and the host operations in order, with the buffers' contents between
   them; then the results and the arguments read off the last contents. -/
module

public import proofs.«01_k».proof.Proof.Records
public import proofs.«01_k».proof.Proof.Gen.Kernel.Regions
public import Idealize.ShloMosaic.Lib.ValueLayout

@[expose] public section

noncomputable section

namespace Cert.Proof.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [BitOps F] [∀ e, Nonempty (Elt F e)]

local notation "𝕄" => MT nD τ sig Unit (Elt F) ℕ (Pipeline.UD sig nD τ) ℕ
local notation "𝒱₀" => Variants.none

/-- The pipeline's part of the algebra. -/
abbrev EP : Emb (URounds (GSem nD τ sig) Unit) (MT nD τ sig Unit (Elt F) ℕ (Pipeline.UD sig nD τ) ℕ) := embL

variable (m : (ℓ : Loc nD τ sig) → Buf (Elt F) ℓ) (ρ : Dev nD → PrngReg)

/-- The packed words of `x` that the first region leaves. -/
def words (c : Dev nD) : S4096x8192.Idx → Elt F .i32 := packed (V1 m c main_arg0)

/-- The indices as the program receives them. -/
def argPerm (c : Dev nD) (j : Fin 4096) : BitVec 32 := (m ((c : Thread nD τ).loc main_arg1) : S4096.Idx → BitVec 32) (ix1 j)

/-- The indices as the second region reads them. -/
def perms (c : Dev nD) (j : Fin 4096) : BitVec 32 := (V1 m c main_v0 : S1x4096.Idx → BitVec 32) (ix2 0 j)

/-- The result the second region leaves. -/
def result (c : Dev nD) : S16384x4096.Idx → Elt F .f32 := gathered (words m c) (perms m c)

/-- The buffers once both regions have run. -/
def settled (c : Dev nD) : Valuation τ sig (Elt F) :=
  Function.update (Function.update (V1 m c) main_v2 (result m c)) main_v1 (words m c)

/-- What the regions leave, as the generated valuations ask for it. -/
def left : Outs (F := F) := fun _ r c => settled m c r

theorem left_v1 (k : ℕ) (c : Dev nD) : left m k main_v1 c = words m c := by
  unfold left settled; rw [Function.update_self]

theorem left_v2 (k : ℕ) (c : Dev nD) : left m k main_v2 c = result m c := by
  unfold left settled
  rw [Function.update_of_ne (StableHlo.devRef_ne_of_ne (by decide)), Function.update_self]

theorem V2_v1 (c : Dev nD) : V2 m (left m) c main_v1 = words m c := by
  simp only [V2]; rw [Function.update_self, left_v1]

theorem V3_v1 (c : Dev nD) : V3 m (left m) c main_v1 = words m c := by
  simp only [V3]; rw [Function.update_self, left_v1]

theorem V3_v2 (c : Dev nD) : V3 m (left m) c main_v2 = result m c := by
  simp only [V3]
  rw [Function.update_of_ne (StableHlo.devRef_ne_of_ne (by decide)), Function.update_self, left_v2]

/-- The buffers' contents as each region finds and leaves them. -/
abbrev At1 (c : Dev nD) (b : Ref sig .tc) : Buf (Elt F) ((c : Thread nD τ).loc b) := V1 m c b
abbrev At2 (c : Dev nD) (b : Ref sig .tc) : Buf (Elt F) ((c : Thread nD τ).loc b) := V2 m (left m) c b
abbrev At3 (c : Dev nD) (b : Ref sig .tc) : Buf (Elt F) ((c : Thread nD τ).loc b) := V3 m (left m) c b

theorem At2_perm (c : Dev nD) : permAt (At2 m) c = perms m c := by
  funext j
  exact congrFun (V2_of m (left m) c main_v0 (by decide)) (ix2 0 j)

theorem At3_out (c : Dev nD) : At3 m c main_v2 = (gathered (yV (At2 m) c) (permAt (At2 m) c) : S16384x4096.Idx → Elt F .f32) := by
  rw [At2_perm, show yV (At2 m) c = words m c from V2_v1 m c]; exact V3_v2 m c

theorem At3_of (c : Dev nD) (b : Ref sig .tc) (h : b ≠ main_v2) : At3 m c b = At2 m c b := by
  by_cases h1 : b = main_v1
  · subst h1; exact (V3_v1 m c).trans (V2_v1 m c).symm
  · exact V3_of m (left m) c b (by simp [h, h1])

/-- The two regions' records at these contents. -/
abbrev rec0 : Pipeline.RegionSeg (pcfgs (F := F)) adm (datsOf (At1 m) (At2 m)) () defs₀ 𝒱₀ noL noLv 0 :=
  packRegion (At1 m) (At2 m) (fun c => V2_v1 m c) (fun c b h => V2_of m (left m) c b (by simp [h]))

abbrev rec1 (hp : ∀ c j, (perms m c j).toNat < 4096) :
    Pipeline.RegionSeg (pcfgs (F := F)) adm (datsOf (At1 m) (At2 m)) () defs₀ 𝒱₀ noL noLv 1 :=
  gatherRegion (At1 m) (At2 m) (At3 m) (fun c j => by rw [At2_perm]; exact hp c j) (At3_out m) (At3_of m)

set_option backward.isDefEq.respectTransparency.types false in
/-- THE KERNEL'S RUN. Where every index is below 4096, every weakly fair execution of @main terminates, leaves every
    unscoped buffer at the last valuation, and leaves every semaphore at zero. -/
theorem run_all (hp : ∀ c j, (perms m c j).toNat < 4096) :
    θ_run defs (onTc (τ := τ) (main (F := F))) ⟨m, fun _ => 0, ρ⟩ (fun r =>
      (∀ c : Dev nD, ∀ b ∈ Pipeline.ucRefs τ sig, r.2.mem (c, b) = V4 m (left m) c b) ∧ r.2.sem = fun _ => 0) := by
  have heldEq (V : Valuation τ sig (Elt F)) (c : Dev nD) :
      (unscopedBufs c (fun b => V b) : sProp 𝕄) = StableHlo.held (c : Thread nD τ) (Pipeline.ucRefs τ sig) V :=
    Pipeline.unscopedBufs_held c V
  refine Pipeline.θ_run_regions_kit_dev_sems (pcfgs (F := F)) adm (datsOf (At1 m) (At2 m)) () cellOf_inj EP defs₀ 𝒱₀ noL noLv m ρ main
    (segs m (left m) 𝒱₀ noL noLv (fun _ => owesNone) () (datsOf (At1 m) (At2 m)) (rec0 m) (rec1 m hp))
    (fun c Q => by
      rewrite [main_chain c, Seg.run_eq_chain]
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj), 1) ?_
    (T₀ := fun c => iprop(StableHlo.held (c : Thread nD τ) (Pipeline.ucRefs τ sig) (V0 m c) ∗ owesNone c))
    (Tₙ := fun c => StableHlo.held (c : Thread nD τ) (Pipeline.ucRefs τ sig) (V4 m (left m) c))
    (hch := fun c => ⟨.rfl, sep_mono (Entails.of_eq (heldEq _ c).symm) .rfl,
      (sep_mono (Entails.of_eq (heldEq _ c)) .rfl).trans (sep_mono (Entails.of_eq (heldEq _ c).symm) .rfl),
      sep_mono (Entails.of_eq (heldEq _ c)) .rfl, .rfl⟩)
    (hinit := Pipeline.initEach noL noLv fun c => ?_)
    (QY := fun c s => ∀ b ∈ Pipeline.ucRefs τ sig, s.mem (c, b) = V4 m (left m) c b)
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · iintro ⟨⟨Hb, -, HO, -⟩, -⟩
    imodintro
    isplitl [Hb]
    · iapply (Entails.of_eq (heldEq (V0 m c) c)); iexact Hb
    iexists ∅; iexact HO
  · unfold StableHlo.held
    iintro ⟨Hh, HSI⟩
    ihave Hr := (pointsTo_read_all (Pipeline.ucRefs τ sig) (fun b => ((c : Thread nD τ).1, b)) (V4 m (left m) c) s') $$ [Hh HSI]
    · isplitl [Hh] <;> iassumption
    icases Hr with ⟨%h, HSI⟩
    imodintro
    isplitr
    · ipureintro; exact h
    iexact HSI

omit [∀ e, Nonempty (Elt F e)] in
/-- The reshaped indices are the argument's words. -/
theorem perms_eq (c : Dev nD) (j : Fin 4096) :
    perms m c j = argPerm m c j := by
  unfold perms argPerm
  have h : (V1 m c main_v0 : S1x4096.Idx → BitVec 32) = shapeCast S1x4096 (m ((c : Thread nD τ).loc main_arg1) : S4096.Idx → BitVec 32) shapeCasts_S4096_S1x4096 := by
    simp only [V1, hostOps0]
    after_results
    rfl
  rw [h]
  exact Idealize.ShloMosaic.ValueIdx.shapeCast_a_1a_apply _ _ _ _

/-- A buffer that no kernel scopes is among those held between the items. -/
theorem mem_uc (b : Ref sig .tc) (h : b.isScoped = false) : (Proc.devRef .tc b : DevRef τ sig) ∈ Pipeline.ucRefs τ sig :=
  Finset.mem_filter.mpr ⟨StableHlo.devRef_mem_tcRefs b, by simpa using h⟩

/-- The second result ends at zeros. -/
theorem V4_v3 (c : Dev nD) : V4 m (left m) c main_v3 = (broadcastInDim S16384 ![] bcast_S_S16384 (constant S_ .f32 0x00000000#32) : S16384.Idx → Elt F .f32) := by
  simp only [V4, hostOps2]
  after_results

/-- The run read at the results and the arguments, the indices given at the launch. -/
theorem run (hp : ∀ (c : Dev nD) (j : Fin 4096), (argPerm m c j).toNat < 4096) :
    θ_run defs (onTc (τ := τ) (main (F := F))) ⟨m, fun _ => 0, ρ⟩ (fun r =>
      (∀ c : Dev nD,
        r.2.mem ((c.tc : Thread nD τ).loc main_v2)
            = (gathered (packed (m ((c : Thread nD τ).loc main_arg0)))
                (fun j => argPerm m c j) : S16384x4096.Idx → Elt F .f32)
        ∧ r.2.mem ((c.tc : Thread nD τ).loc main_v3)
            = (broadcastInDim S16384 ![] bcast_S_S16384 (constant S_ .f32 0x00000000#32) : S16384.Idx → Elt F .f32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) := by
  refine (θ_run _ _ _).mono (fun r h => ⟨fun c => ⟨?_, ?_, ?_, ?_, ?_⟩, h.2⟩) (run_all m ρ fun c j => by rw [perms_eq]; exact hp c j)
  · refine (h.1 c _ (mem_uc main_v2 (by decide))).trans ((V4_of m (left m) c main_v2 (by decide)).trans ((V3_v2 m c).trans ?_))
    unfold result words
    rw [V1_of m c main_arg0 (by decide)]
    exact congrArg _ (funext fun j => perms_eq m c j)
  · exact (h.1 c _ (mem_uc main_v3 (by decide))).trans (V4_v3 m c)
  · exact (h.1 c _ (mem_uc main_arg0 (by decide))).trans (V4_main_arg0 m (left m) c)
  · exact (h.1 c _ (mem_uc main_arg1 (by decide))).trans (V4_main_arg1 m (left m) c)
  · exact (h.1 c _ (mem_uc main_arg2 (by decide))).trans (V4_main_arg2 m (left m) c)

end Cert.Proof.Gather

end
-- ==== Proof.Value.lean ====
/- The values: the precondition read at an index, a packed pair unpacked again, the reference's take read at an element, and
   the one function that both programs compute. -/
module

public import proofs.«01_k».proof.Proof.Run
public import proofs.«01_k».proof.Proof.Gen.Reference.Run
public import proofs.«01_k».proof.Proof.Gen.Pre_in_range
public import proofs.«01_k».proof.Defs

@[expose] public section

noncomputable section

namespace Cert.Proof.Gather

open Idealize.ShloMosaic Idealize.ShloMosaic.TcCoe
open Cert.Kernel (S16384x4096 S4096 S4096x8192)

/-! ## A conjunction of bits over an axis -/

/-- Two bits' conjunction is one exactly when both are. -/
theorem andi_one : ∀ a b : BitVec 1, IntOp.andi a b = 1#1 ↔ a = 1#1 ∧ b = 1#1 := by decide

/-- A running conjunction is one exactly when its start and every bit it meets are. -/
theorem foldl_andi {ι : Type} (x : ι → BitVec 1) (l : List ι) (a : BitVec 1) :
    l.foldl (fun r i => IntOp.andi r (x i)) a = 1#1 ↔ a = 1#1 ∧ ∀ i ∈ l, x i = 1#1 := by
  induction l generalizing a with
  | nil => simp
  | cons i l ih => rw [List.foldl_cons, ih, andi_one, List.forall_mem_cons, and_assoc]

/-- A host reduction by conjunction is one exactly when its start and every bit of the fiber are. -/
theorem reduce_andi {s t u : Shape} {axes : List (Fin s.rank)} (x : s.Idx → BitVec 1) (init : u.Idx → BitVec 1) (h : s.ReducesTo axes t)
    (hu : 0 < u.numel) (j : t.Idx) :
    Host.reduce IntOp.andi x init h hu j = 1#1 ↔ init (Shape.Idx.first hu) = 1#1 ∧ ∀ i, h.drop i = j → x i = 1#1 := by
  rw [Host.reduce_eq_foldl, foldl_andi]
  refine and_congr_right fun _ => ⟨fun H i hi => H i ?_, fun H i hi => H i (by simpa using (List.mem_filter.mp hi).2)⟩
  exact List.mem_filter.mpr ⟨List.mem_map.mpr ⟨s.rowMajor i, List.mem_finRange _, s.rowMajor.symm_apply_apply i⟩, by simpa using hi⟩

/-! ## The precondition -/

/-- A word that compares at least 0 and below 4096 is below 4096 as a number. -/
theorem word_lt (w : BitVec 32) (h : IntOp.andi (IntOp.cmpi .sge w 0#32) (IntOp.cmpi .slt w 4096#32) = 1#1) : w.toNat < 4096 := by
  have ofBool_one (p : Bool) : (BitVec.ofBool p = 1#1) ↔ p = true := by cases p <;> decide
  obtain ⟨h0, h1⟩ := (andi_one _ _).mp h
  simp only [IntOp.cmpi, ofBool_one, BitVec.sle, BitVec.slt, decide_eq_true_eq, BitVec.toInt, BitVec.toNat_ofNat] at h0 h1
  omega

/-- Under the precondition every index is below 4096. -/
theorem perm_lt (x : S16384x4096.Idx → Bits .f32) (p q : S4096.Idx → BitVec 32)
    (h : Cert.Pre_in_range.fn (F := Bits) x p q = fun _ => 1#1) (j : S4096.Idx) : (p j).toNat < 4096 := by
  refine word_lt _ (((reduce_andi _ _ _ _ _).mp (congrFun h fun a => a.elim0)).2 j ?_)
  funext a; exact a.elim0

/-! ## Packing and unpacking -/

/-- The low half of two halves is the second, -/
theorem extract_low (a b : BitVec 16) : (a ++ b).extractLsb' (0 * 16) 16 = b := by
  ext i hi; rw [BitVec.getElem_extractLsb', BitVec.getLsbD_append, if_pos (by omega), Nat.zero_mul, Nat.zero_add, BitVec.getLsbD_eq_getElem hi]

/-- and the high half is the first. -/
theorem extract_high (a b : BitVec 16) : (a ++ b).extractLsb' (1 * 16) 16 = a := by
  ext i hi; rw [BitVec.getElem_extractLsb', BitVec.getLsbD_append, if_neg (by omega), Nat.one_mul, Nat.add_sub_cancel_left, BitVec.getLsbD_eq_getElem hi]

/-- Unpacking the low half of a packed pair gives its first float rounded to bf16, -/
theorem half_low (lo hi : Bits .f32) : half (F := Bits) 0 (pack2 lo hi) = FloatOps.extf (F := Bits) .f32 (by decide) (FloatOps.truncf .bf16 (by decide) lo) := by
  unfold half pack2; rw [extract_low]; rfl

/-- and unpacking the high half gives its second. -/
theorem half_high (lo hi : Bits .f32) : half (F := Bits) 1 (pack2 lo hi) = FloatOps.extf (F := Bits) .f32 (by decide) (FloatOps.truncf .bf16 (by decide) hi) := by
  unfold half pack2; rw [extract_high]; rfl

/-- The common value: column `p j` of `x` rounded to bf16 and back, at column `j`. -/
def taken (x : S16384x4096.Idx → Bits .f32) (p : Fin 4096 → BitVec 32) (i : S16384x4096.Idx) : Bits .f32 :=
  FloatOps.extf (F := Bits) .f32 (by decide) (FloatOps.truncf .bf16 (by decide) (x (ix2 (i 0) (rowIx (p (i 1))))))

/-- What the two kernels leave together is the common value. -/
theorem gathered_packed (x : S16384x4096.Idx → Bits .f32) (p : Fin 4096 → BitVec 32) :
    gathered (F := Bits) (packed x) p = taken x p := by
  funext i
  have hb : (i 0).val < 16384 := (i 0).isLt
  unfold gathered taken packed
  by_cases h : (i 0).val < 8192
  · rw [Nat.div_eq_of_lt h, half_low]
    congr 3
    refine congrArg (fun r => ix2 r _) (Fin.ext ?_)
    exact Nat.mod_eq_of_lt h
  · rw [show (i 0).val / 8192 = 1 by omega, half_high]
    congr 3
    refine congrArg (fun r => ix2 r _) (Fin.ext ?_)
    show 8192 + (i 0).val % 8192 = (i 0).val
    omega

end Cert.Proof.Gather

/-! ## The reference -/

namespace Cert.Proof.Reference

open Idealize.ShloMosaic Idealize.ShloMosaic.TcCoe
open Idealize.SL.Sem
open Cert.Reference Cert.Reference.Gen
open Cert.Proof.Gather (taken rowIx reduce_andi)

/-- jnp's treatment of a negative index leaves an index below 4096 as it is. -/
theorem wrap_id (p : S4096.Idx → BitVec 32) (hp : ∀ j, (p j).toNat < 4096) :
    select (cmpi .slt p (broadcastInDim S4096 ![] bcast_S_S4096 (constantI S_ 32 0#32)))
      (addi p (broadcastInDim S4096 ![] bcast_S_S4096 (constantI S_ 32 4096#32))) p = p := by
  funext j
  have h := hp j
  have h0 : IntOp.cmpi .slt (p j) 0#32 = 0#1 := by
    have : (p j).slt 0#32 = false := by
      simp only [BitVec.slt, decide_eq_false_iff_not, BitVec.toInt, BitVec.toNat_ofNat]
      omega
    simp only [IntOp.cmpi, this]; rfl
  show Scalar.select (IntOp.cmpi .slt (p j) 0#32) _ _ = _
  rw [h0]; rfl

/-- The bounds test jnp makes passes at an index below 4096. -/
theorem inside (w : BitVec 32) (h : w.toNat < 4096) : IntOp.andi (IntOp.cmpi .sge w 0#32) (IntOp.cmpi .sle w 4095#32) = 1#1 := by
  have h0 : (0#32).sle w = true := by
    simp only [BitVec.sle, decide_eq_true_eq, BitVec.toInt, BitVec.toNat_ofNat]; omega
  have h1 : w.sle 4095#32 = true := by
    simp only [BitVec.sle, decide_eq_true_eq, BitVec.toInt, BitVec.toNat_ofNat]; omega
  simp only [IntOp.cmpi, h0, h1]; decide

/-- The gather down the columns, read at an element: the row is kept, and the column is the start index. -/
theorem gather_col (x : S16384x4096.Idx → Bits .f32) (idx : S4096x1.Idx → BitVec 32) (i : S16384x4096.Idx) :
    Host.gather gather_S16384x4096_S4096x1_S16384x4096_0_1_n_n_1_1_163841 x idx i
      = x (ix2 (i 0) ⟨min (idx (ix2 (i 1) 0)).toInt.toNat 4095, by omega⟩) := by
  unfold Host.gather
  congr 1
  funext a
  refine Fin.ext ?_
  show GatherDims.start _ i idx a + GatherDims.batchCoord _ i a + GatherDims.offCoord _ i a = _
  rw [GatherDims.batchCoord_eq_zero _ _ _ (fun h => by cases h)]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    unfold GatherDims.offCoord
    rw [dif_pos (by decide)]
    simp only [Nat.zero_add]
    rfl
  · rw [GatherDims.offCoord_eq_zero _ _ _ (by decide)]
    unfold GatherDims.start
    rw [dif_pos (by decide)]
    have hsi : GatherDims.siIdx gather_S16384x4096_S4096x1_S16384x4096_0_1_n_n_1_1_163841 i ⟨0, by decide⟩ = ix2 (i 1) 0 := by
      funext b; refine Fin.ext ?_
      match b with
      | ⟨0, _⟩ => rfl
      | ⟨1, _⟩ => rfl
    exact congrArg (fun z => min (idx z).toInt.toNat 4095) hsi

/-- The reference's first result, under the precondition, is the common value. -/
theorem take_eq (x : S16384x4096.Idx → Bits .f32) (p : S4096.Idx → BitVec 32) (hp : ∀ j, (p j).toNat < 4096)
    (idx : S4096x1.Idx → BitVec 32) (hidx : ∀ j : Fin 4096, idx (ix2 j 0) = p (ix1 j)) :
    select (broadcastInDim S16384x4096 ![1] bcast_S4096_S16384x4096_1
        (Host.reduce IntOp.andi (andi (cmpi .sge idx (broadcastInDim S4096x1 ![] bcast_S_S4096x1 (constantI S_ 32 0#32)))
            (cmpi .sle idx (broadcastInDim S4096x1 ![0, 1] bcast_S1x1_S4096x1_0_1 (broadcastInDim S1x1 ![1] bcast_S1_S1x1_1 (constantI S1 32 4095#32)))))
          (constantI S_ 1 1#1) reducesTo_S4096x1_S4096_d1 h_S_))
      (Host.gather gather_S16384x4096_S4096x1_S16384x4096_0_1_n_n_1_1_163841
        (extf .f32 (truncf .bf16 x bitsLt_bf16_f32) bitsLt_bf16_f32 : S16384x4096.Idx → Bits .f32) idx)
      (broadcastInDim S16384x4096 ![] bcast_S_S16384x4096 (constant (F := Bits) S_ .f32 0x7FC00000#32))
      = taken x (fun j => p (ix1 j)) := by
  have hlt (k : S4096x1.Idx) : (idx k).toNat < 4096 := by
    have hk : k = ix2 (k 0) 0 := by
      funext b; refine Fin.ext ?_
      match b with
      | ⟨0, _⟩ => rfl
      | ⟨1, h⟩ => exact Nat.lt_one_iff.mp (k ⟨1, h⟩).isLt
    rw [hk]
    exact lt_of_eq_of_lt (congrArg BitVec.toNat (hidx (k 0))) (hp _)
  funext i
  show Scalar.select (Host.reduce IntOp.andi _ _ _ _ _) (Host.gather _ _ _ i) _ = _
  refine (congrArg (fun b => Scalar.select b _ _) ((reduce_andi _ _ _ _ _).mpr ⟨rfl, fun k _ => inside (idx k) (hlt k)⟩)).trans ?_
  rw [gather_col]
  show FloatOps.extf (F := Bits) .f32 _ (FloatOps.truncf .bf16 _ (x (ix2 (i 0) _))) = taken x _ i
  unfold taken
  congr 3
  refine congrArg (ix2 (i 0)) (Fin.ext ?_)
  show min (idx (ix2 (i 1) 0)).toInt.toNat 4095 = (p (ix1 (i 1))).toNat % 4096
  have h := hp (ix1 (i 1))
  rw [hidx (i 1), BitVec.toInt_eq_toNat_of_lt (by omega), Nat.mod_eq_of_lt h]
  omega

/-- The reference's run read at the common value. -/
theorem run (m : (ℓ : Loc nD τ sig) → Buf (Elt Bits) ℓ) (ρ : Dev nD → PrngReg)
    (p : Dev nD → S4096.Idx → BitVec 32) (x : Dev nD → S16384x4096.Idx → Bits .f32)
    (h0 : ∀ c : Dev nD, m ((c.tc : Thread nD τ).loc main_arg0) = x c) (h1 : ∀ c : Dev nD, m ((c.tc : Thread nD τ).loc main_arg1) = p c)
    (hp : ∀ c j, (p c j).toNat < 4096) :
    θ_run defs (onTc (τ := τ) (main (F := Bits))) ⟨m, fun _ => 0, ρ⟩ fun r => ∀ c : Dev nD,
      r.2.mem ((c.tc : Thread nD τ).loc main_v2) = taken (x c) (fun j => p c (ix1 j))
      ∧ r.2.mem ((c.tc : Thread nD τ).loc main_v3) = broadcastInDim S16384 ![] bcast_S_S16384 (constant (F := Bits) S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.Reference.Value.run (F := Bits) m ρ)
  rw [h0 c, h1 c, wrap_id (p c) (hp c)]
  exact take_eq (x c) (p c) (hp c) _ fun j => congrArg (p c) (by funext b; match b with | ⟨0, _⟩ => rfl)

end Cert.Proof.Reference

end
-- ==== Proof.lean ====
/- The claims, each from its module: the kernel's frame and its equality with the reference bit for bit from the kernel's run
   (Proof/Run.lean) and the value equation (Proof/Value.lean); the references' frames, and the rounded reference against the
   unrounded one over the extended reals, from their own runs. -/
module

public import proofs.«01_k».proof.Defs
public import proofs.«01_k».proof.Proof.Gen.Kernel
public import proofs.«01_k».proof.Proof.Gen.Reference
public import proofs.«01_k».proof.Proof.Gen.Reference.Run
public import proofs.«01_k».proof.Proof.Gen.Pre_in_range
public import proofs.«01_k».proof.Proof.Gen.ReferenceIdeal.Run
public import proofs.«01_k».proof.Proof.Gen.UnroundedIdeal.Run
public import proofs.«01_k».proof.Proof.Gen.Unrounded.Run
public import proofs.«01_k».proof.Proof.Value

@[expose] public section

noncomputable section

namespace Cert.Proof

open Idealize.ShloMosaic Idealize.ShloMosaic.TcCoe Idealize.SL.Sem

/-- The indices of a launch memory that satisfies the precondition are below 4096. -/
theorem below (m : (ℓ : Loc Cert.Kernel.nD Cert.Kernel.τ Cert.Kernel.sig) → Buf (Elt Bits) ℓ) (h : Cert.Pre_Kernel m)
    (c : Dev Cert.Kernel.nD) (j : Cert.Kernel.S4096.Idx) :
    ((m ((c.tc : Thread Cert.Kernel.nD Cert.Kernel.τ).loc Cert.Kernel.main_arg1) : Cert.Kernel.S4096.Idx → BitVec 32) j).toNat < 4096 :=
  Gather.perm_lt _ _ _ (h c) j

/-- The kernel's frame: the valued run, of which only the arguments and the semaphores are kept. -/
theorem frame_kernel : Cert.quiescent_Kernel := fun m ρ h =>
  (θ_run Cert.Kernel.defs _ _).mono (fun _ H => ⟨fun c => (H.1 c).2.2, H.2⟩) (Gather.run (F := Bits) m ρ fun c j => below m h c (ix1 j))

/-- The reference's frame: its generated run; it declares no semaphore. -/
theorem frame_reference : Cert.quiescent_Reference := fun m ρ _ =>
  (θ_run Cert.Reference.defs _ _).mono (fun r H => ⟨fun c => (H c).2.2, sem_eq_zero_of_no_sems (by decide) r.2⟩)
    (Cert.Reference.Value.run (F := Bits) m ρ)

/-- The same under the precondition, which it does not need. -/
theorem frame_reference_pre : Cert.quiescent_Reference_pre_in_range := fun m ρ _ => frame_reference m ρ trivial

/-- The kernel and the reference leave the same two arrays, bit for bit: column `perm j` of `x`, rounded to bf16 and back,
    as column `j` of the first, and zeros in the second. -/
theorem bitexact : Cert.bitexact_Kernel_Reference := by
  intro m ρ m' ρ' h hagree
  refine ⟨fun c => Gather.taken (m ((c.tc : Thread Cert.Kernel.nD Cert.Kernel.τ).loc Cert.Kernel.main_arg0)) (Gather.argPerm m c),
    fun _ => broadcastInDim Cert.Kernel.S16384 ![] Cert.Kernel.Gen.bcast_S_S16384 (constant (F := Bits) Cert.Kernel.S_ .f32 0x00000000#32), ?_, ?_⟩
  · exact (θ_run Cert.Kernel.defs _ _).mono (fun _ H c => ⟨(H.1 c).1.trans (Gather.gathered_packed _ _), (H.1 c).2⟩)
      (Gather.run (F := Bits) m ρ fun c j => below m h c (ix1 j))
  · exact Reference.run m' ρ' _ _ (fun c => (hagree c).1) (fun c => (hagree c).2.1) (below m h)

/-- The frame of the reference with its floats read as extended reals: its generated run. -/
theorem frame_reference_ideal : Cert.quiescent_ReferenceIdeal := fun m ρ _ =>
  (θ_run Cert.ReferenceIdeal.defs _ _).mono (fun r H => ⟨fun c => (H c).2.2, sem_eq_zero_of_no_sems (by decide) r.2⟩)
    (Cert.ReferenceIdeal.Value.run (F := Ideal) m ρ)

/-- The same of the problem's function without the rounding, -/
theorem frame_unrounded_ideal : Cert.quiescent_UnroundedIdeal := fun m ρ _ =>
  (θ_run Cert.UnroundedIdeal.defs _ _).mono (fun r H => ⟨fun c => (H c).2.2, sem_eq_zero_of_no_sems (by decide) r.2⟩)
    (Cert.UnroundedIdeal.Value.run (F := Ideal) m ρ)

/-- and of that function on machine floats. -/
theorem frame_unrounded : Cert.quiescent_Unrounded := fun m ρ _ =>
  (θ_run Cert.Unrounded.defs _ _).mono (fun r H => ⟨fun c => (H c).2.2, sem_eq_zero_of_no_sems (by decide) r.2⟩)
    (Cert.Unrounded.Value.run (F := Bits) m ρ)

/-- Over the extended reals the reference is the problem's function: a cast to bf16 and back changes nothing there. -/
theorem algebraic : Cert.algebraic_ReferenceIdeal_UnroundedIdeal := by
  intro m ρ m' ρ' _ hagree
  refine ⟨_, _, Cert.ReferenceIdeal.Value.run (F := Ideal) m ρ, ?_⟩
  refine (θ_run Cert.UnroundedIdeal.defs _ _).mono (fun _ H c => ⟨(H c).1.trans ?_, (H c).2⟩) (Cert.UnroundedIdeal.Value.run (F := Ideal) m' ρ')
  rw [(hagree c).1, (hagree c).2.1]
  rfl

/-- Everything the certificate claims. -/
theorem claim : Cert.Claim :=
  ⟨Cert.Kernel.Gen.facts, Cert.Reference.Gen.facts, Cert.ReferenceIdeal.Gen.facts, Cert.UnroundedIdeal.Gen.facts, Cert.Unrounded.Gen.facts,
    Cert.Pre_in_range.Gen.facts, frame_kernel, frame_reference, frame_reference_pre, frame_reference_ideal, frame_unrounded_ideal, frame_unrounded,
    bitexact, trivial, trivial, algebraic⟩

end Cert.Proof

end
